-- ==== Defs.lean ====
def Pre_Kernel [hPre_experts_named : Cert.Pre_experts_named.Facts] (m : (ℓ : Loc Cert.Kernel.nD Cert.Kernel.τ Cert.Kernel.sig) → Buf (Elt Bits) ℓ) : Prop :=
  ∀ c : Dev Cert.Kernel.nD,
    (Cert.Pre_experts_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_named : Cert.Pre_experts_named.Facts] (m : (ℓ : Loc Cert.KernelIdeal.nD Cert.KernelIdeal.τ Cert.KernelIdeal.sig) → Buf (Elt Ideal) ℓ) : Prop :=
  ∀ c : Dev Cert.KernelIdeal.nD,
    (Cert.Pre_experts_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_experts_named : Cert.Pre_experts_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Inproj (m : (ℓ : Loc Cert.Inproj.nD Cert.Inproj.τ Cert.Inproj.sig) → Buf (Elt Bits) ℓ) : Prop :=
  True

def Pre_Inproj_finite [hPre_finite : Cert.Pre_finite.Facts] (m : (ℓ : Loc Cert.Inproj.nD Cert.Inproj.τ Cert.Inproj.sig) → Buf (Elt Bits) ℓ) : Prop :=
  ∀ c : Dev Cert.Inproj.nD,
    (Cert.Pre_finite.fn (F := Bits) (m ((c.tc : Thread Cert.Inproj.nD Cert.Inproj.τ).loc Cert.Inproj.main_arg0)) (m ((c.tc : Thread Cert.Inproj.nD Cert.Inproj.τ).loc Cert.Inproj.main_arg1)) (m ((c.tc : Thread Cert.Inproj.nD Cert.Inproj.τ).loc Cert.Inproj.main_arg2)) (m ((c.tc : Thread Cert.Inproj.nD Cert.Inproj.τ).loc Cert.Inproj.main_arg3)) (m ((c.tc : Thread Cert.Inproj.nD Cert.Inproj.τ).loc Cert.Inproj.main_arg4))) = (fun _ => 1#1)

def Pre_InprojIdeal (m : (ℓ : Loc Cert.InprojIdeal.nD Cert.InprojIdeal.τ Cert.InprojIdeal.sig) → Buf (Elt Ideal) ℓ) : Prop :=
  True

def Pre_InprojIdeal_finite [hPre_finite : Cert.Pre_finite.Facts] (m : (ℓ : Loc Cert.InprojIdeal.nD Cert.InprojIdeal.τ Cert.InprojIdeal.sig) → Buf (Elt Ideal) ℓ) : Prop :=
  ∀ c : Dev Cert.InprojIdeal.nD,
    (Cert.Pre_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))) = (fun _ => 1#1)

def Pre_ProjectionsIdeal (m : (ℓ : Loc Cert.ProjectionsIdeal.nD Cert.ProjectionsIdeal.τ Cert.ProjectionsIdeal.sig) → Buf (Elt Ideal) ℓ) : Prop :=
  True

def Pre_ProjectionsIdeal_finite [hPre_finite : Cert.Pre_finite.Facts] (m : (ℓ : Loc Cert.ProjectionsIdeal.nD Cert.ProjectionsIdeal.τ Cert.ProjectionsIdeal.sig) → Buf (Elt Ideal) ℓ) : Prop :=
  ∀ c : Dev Cert.ProjectionsIdeal.nD,
    (Cert.Pre_finite.fn (F := Ideal) (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4))) = (fun _ => 1#1)

def quiescent_Kernel [hKernel : Cert.Kernel.Facts] [hPre_experts_named : Cert.Pre_experts_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_named : Cert.Pre_experts_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_experts_named : Cert.Pre_experts_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_Inproj_pre_finite [hInproj : Cert.Inproj.Facts] [hPre_finite : Cert.Pre_finite.Facts] : Prop :=
  ∀ (m : (ℓ : Loc Cert.Inproj.nD Cert.Inproj.τ Cert.Inproj.sig) → Buf (Elt Bits) ℓ) (g : Dev Cert.Inproj.nD → PrngReg), Pre_Inproj_finite m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_finite [hInprojIdeal : Cert.InprojIdeal.Facts] [hPre_finite : Cert.Pre_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4))
      ∧ r.2.sem = fun _ => 0)

def quiescent_ProjectionsIdeal_pre_finite [hProjectionsIdeal : Cert.ProjectionsIdeal.Facts] [hPre_finite : Cert.Pre_finite.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal_finite m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_named : Cert.Pre_experts_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Inproj_InprojIdeal : Prop :=
  True

def algebraic_InprojIdeal_ProjectionsIdeal_pre_finite [hInprojIdeal : Cert.InprojIdeal.Facts] [hProjectionsIdeal : Cert.ProjectionsIdeal.Facts] [hPre_finite : Cert.Pre_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.ProjectionsIdeal.nD Cert.ProjectionsIdeal.τ Cert.ProjectionsIdeal.sig) → Buf (Elt Ideal) ℓ) (g' : Dev Cert.ProjectionsIdeal.nD → PrngReg), Pre_InprojIdeal_finite m →
    (∀ c : Dev Cert.InprojIdeal.nD,
      m' ((c.tc : Thread Cert.ProjectionsIdeal.nD Cert.ProjectionsIdeal.τ).loc Cert.ProjectionsIdeal.main_arg0) = m ((c.tc : Thread Cert.InprojIdeal.nD Cert.InprojIdeal.τ).loc Cert.InprojIdeal.main_arg0)
      ∧ m' ((c.tc : Thread Cert.ProjectionsIdeal.nD Cert.ProjectionsIdeal.τ).loc Cert.ProjectionsIdeal.main_arg1) = m ((c.tc : Thread Cert.InprojIdeal.nD Cert.InprojIdeal.τ).loc Cert.InprojIdeal.main_arg1)
      ∧ m' ((c.tc : Thread Cert.ProjectionsIdeal.nD Cert.ProjectionsIdeal.τ).loc Cert.ProjectionsIdeal.main_arg2) = m ((c.tc : Thread Cert.InprojIdeal.nD Cert.InprojIdeal.τ).loc Cert.InprojIdeal.main_arg2)
      ∧ m' ((c.tc : Thread Cert.ProjectionsIdeal.nD Cert.ProjectionsIdeal.τ).loc Cert.ProjectionsIdeal.main_arg3) = m ((c.tc : Thread Cert.InprojIdeal.nD Cert.InprojIdeal.τ).loc Cert.InprojIdeal.main_arg3)
      ∧ m' ((c.tc : Thread Cert.ProjectionsIdeal.nD Cert.ProjectionsIdeal.τ).loc Cert.ProjectionsIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v63_0)) (v1 : (c : Dev Cert.InprojIdeal.nD) → Buf (Elt Ideal) ((c.tc : Thread Cert.InprojIdeal.nD Cert.InprojIdeal.τ).loc Cert.InprojIdeal.main_v63_1)) (v2 : (c : Dev Cert.InprojIdeal.nD) → Buf (Elt Ideal) ((c.tc : Thread Cert.InprojIdeal.nD Cert.InprojIdeal.τ).loc Cert.InprojIdeal.main_v63_2)) (v3 : (c : Dev Cert.InprojIdeal.nD) → Buf (Elt Ideal) ((c.tc : Thread Cert.InprojIdeal.nD Cert.InprojIdeal.τ).loc Cert.InprojIdeal.main_v63_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v63_0) = v0 c
          ∧ r.2.mem ((c.tc : Thread Cert.InprojIdeal.nD Cert.InprojIdeal.τ).loc Cert.InprojIdeal.main_v63_1) = v1 c
          ∧ r.2.mem ((c.tc : Thread Cert.InprojIdeal.nD Cert.InprojIdeal.τ).loc Cert.InprojIdeal.main_v63_2) = v2 c
          ∧ r.2.mem ((c.tc : Thread Cert.InprojIdeal.nD Cert.InprojIdeal.τ).loc Cert.InprojIdeal.main_v63_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.ProjectionsIdeal.defs (F := Ideal)) (onTc (τ := Cert.ProjectionsIdeal.τ) (Cert.ProjectionsIdeal.main (F := Ideal))) ⟨m', fun _ => 0, g'⟩ (fun r => ∀ c : Dev Cert.ProjectionsIdeal.nD,
          r.2.mem ((c.tc : Thread Cert.ProjectionsIdeal.nD Cert.ProjectionsIdeal.τ).loc Cert.ProjectionsIdeal.main_v182) = v0 c
          ∧ r.2.mem ((c.tc : Thread Cert.ProjectionsIdeal.nD Cert.ProjectionsIdeal.τ).loc Cert.ProjectionsIdeal.main_v186) = v1 c
          ∧ r.2.mem ((c.tc : Thread Cert.ProjectionsIdeal.nD Cert.ProjectionsIdeal.τ).loc Cert.ProjectionsIdeal.main_v193) = v2 c
          ∧ r.2.mem ((c.tc : Thread Cert.ProjectionsIdeal.nD Cert.ProjectionsIdeal.τ).loc Cert.ProjectionsIdeal.main_v194) = v3 c
          ∧ r.2.mem ((c.tc : Thread Cert.ProjectionsIdeal.nD Cert.ProjectionsIdeal.τ).loc Cert.ProjectionsIdeal.main_arg0) = m' ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m' ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m' ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m' ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m' ((c.tc : Thread Cert.ProjectionsIdeal.nD Cert.ProjectionsIdeal.τ).loc Cert.ProjectionsIdeal.main_arg4))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hProjectionsIdeal : Cert.ProjectionsIdeal.Facts) (hPre_experts_named : Cert.Pre_experts_named.Facts) (hPre_finite : Cert.Pre_finite.Facts),
    quiescent_Kernel (hKernel := hKernel) (hPre_experts_named := hPre_experts_named)
    ∧ quiescent_KernelIdeal (hKernelIdeal := hKernelIdeal) (hPre_experts_named := hPre_experts_named)
    ∧ quiescent_ReferenceIdeal (hReferenceIdeal := hReferenceIdeal) (hPre_experts_named := hPre_experts_named)
    ∧ quiescent_Inproj (hInproj := hInproj)
    ∧ quiescent_Inproj_pre_finite (hInproj := hInproj) (hPre_finite := hPre_finite)
    ∧ quiescent_InprojIdeal (hInprojIdeal := hInprojIdeal)
    ∧ quiescent_InprojIdeal_pre_finite (hInprojIdeal := hInprojIdeal) (hPre_finite := hPre_finite)
    ∧ quiescent_ProjectionsIdeal (hProjectionsIdeal := hProjectionsIdeal)
    ∧ quiescent_ProjectionsIdeal_pre_finite (hProjectionsIdeal := hProjectionsIdeal) (hPre_finite := hPre_finite)
    ∧ preserves_Kernel_KernelIdeal
    ∧ algebraic_KernelIdeal_ReferenceIdeal (hKernelIdeal := hKernelIdeal) (hReferenceIdeal := hReferenceIdeal) (hPre_experts_named := hPre_experts_named)
    ∧ preserves_Inproj_InprojIdeal
    ∧ algebraic_InprojIdeal_ProjectionsIdeal_pre_finite (hInprojIdeal := hInprojIdeal) (hProjectionsIdeal := hProjectionsIdeal) (hPre_finite := hPre_finite)
-- ==== Pre_experts_named.lean ====
abbrev S97 : Shape := ⟨1, ![97]⟩
abbrev S1 : Shape := ⟨1, ![1]⟩
abbrev S24832x2048 : Shape := ⟨2, ![24832, 2048]⟩
abbrev S1x2048 : Shape := ⟨2, ![1, 2048]⟩
abbrev S32x2048x256 : Shape := ⟨3, ![32, 2048, 256]⟩
abbrev S32x256x2048 : Shape := ⟨3, ![32, 256, 2048]⟩
abbrev S_ : Shape := ⟨0, ![]⟩

class Facts : Prop where
  bcast_S_S97 : S_.BroadcastsInDim S97 (![] : Fin 0 → Fin S97.rank)

variable [Facts]

def fn {F : FTy → Type} [FloatOps F] (main_arg0 : IVec S97 32) (main_arg1 : IVec S1 32) (main_arg2 : FVec F S24832x2048 .f32) (main_arg3 : FVec F S1x2048 .f32) (main_arg4 : FVec F S32x2048x256 .f32) (main_arg5 : FVec F S32x2048x256 .f32) (main_arg6 : FVec F S32x256x2048 .f32) : IVec S97 1 :=
  let main_c : IVec S_ 32 := constantI S_ 32 0#32
  let main_v0 : IVec S97 32 := broadcastInDim S97 ![] bcast_S_S97 main_c
  let main_v1 : IVec S97 1 := cmpi .sge main_arg0 main_v0
  let main_c_0 : IVec S_ 32 := constantI S_ 32 31#32
  let main_v2 : IVec S97 32 := broadcastInDim S97 ![] bcast_S_S97 main_c_0
  let main_v3 : IVec S97 1 := cmpi .sle main_arg0 main_v2
  let main_v4 : IVec S97 1 := andi main_v1 main_v3
  main_v4
-- ==== Pre_finite.lean ====
abbrev S4x2048x2048 : Shape := ⟨3, ![4, 2048, 2048]⟩
abbrev S2048 : Shape := ⟨1, ![2048]⟩
abbrev S2048x8264 : Shape := ⟨2, ![2048, 8264]⟩
abbrev S64 : Shape := ⟨1, ![64]⟩
abbrev S_ : Shape := ⟨0, ![]⟩
abbrev S2048x1280 : Shape := ⟨2, ![2048, 1280]⟩

class Facts : Prop where
  bcast_S_S2048 : S_.BroadcastsInDim S2048 (![] : Fin 0 → Fin S2048.rank)
  reducesTo_S2048_S_d0 : S2048.ReducesTo [0] S_
  h_S_ : 0 < S_.numel
  slices_S2048x8264_S2048x1280_0_2048 : S2048x8264.Slices ![0, 2048] S2048x1280
  bcast_S_S2048x1280 : S_.BroadcastsInDim S2048x1280 (![] : Fin 0 → Fin S2048x1280.rank)
  reducesTo_S2048x1280_S_d0_1 : S2048x1280.ReducesTo [0, 1] S_

variable [Facts]

def fn {F : FTy → Type} [FloatOps F] (main_arg0 : FVec F S4x2048x2048 .f32) (main_arg1 : FVec F S2048 .f32) (main_arg2 : FVec F S2048x8264 .f32) (main_arg3 : FVec F S64 .f32) (main_arg4 : FVec F S64 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x1280 .f32 := (extractStridedSlice S2048x1280 ![0, 2048] · slices_S2048x8264_S2048x1280_0_2048) main_arg2
  let main_v5 : FVec F S2048x1280 .f32 := Host.absf main_v4
  let main_cst_0 : FVec F S_ .f32 := constant S_ .f32 0x7F800000#32
  let main_v6 : FVec F S2048x1280 .f32 := broadcastInDim S2048x1280 ![] bcast_S_S2048x1280 main_cst_0
  let main_v7 : IVec S2048x1280 1 := cmpf .olt main_v5 main_v6
  let main_c_1 : IVec S_ 1 := constantI S_ 1 1#1
  let main_v8 : IVec S_ 1 := (fun x v => Host.reduce IntOp.andi x v reducesTo_S2048x1280_S_d0_1 h_S_) main_v7 main_c_1
  let main_v9 : IVec S_ 1 := andi main_v3 main_v8
  main_v9
-- ==== Kernel.lean ====
abbrev S97 : Shape := ⟨1, ![97]⟩
abbrev S1 : Shape := ⟨1, ![1]⟩
abbrev S24832x2048 : Shape := ⟨2, ![24832, 2048]⟩
abbrev S1x2048 : Shape := ⟨2, ![1, 2048]⟩
abbrev S32x2048x256 : Shape := ⟨3, ![32, 2048, 256]⟩
abbrev S32x256x2048 : Shape := ⟨3, ![32, 256, 2048]⟩
abbrev S256x2048 : Shape := ⟨2, ![256, 2048]⟩
abbrev S1x2048x256 : Shape := ⟨3, ![1, 2048, 256]⟩
abbrev S1x256x2048 : Shape := ⟨3, ![1, 256, 2048]⟩
abbrev S256 : Shape := ⟨1, ![256]⟩
abbrev S256x1 : Shape := ⟨2, ![256, 1]⟩
abbrev S2048x256 : Shape := ⟨2, ![2048, 256]⟩
abbrev S256x256 : Shape := ⟨2, ![256, 256]⟩

abbrev nBuf : Space → Nat
  | .hbm => 6
  | .vmem => 11
  | .smem => 2
  | _ => 0

abbrev bufTy : (tb : Table) → Fin (tcTables nBuf tb) → BufTy
  | .hbm, ⟨0, _⟩ => ⟨S24832x2048, .f32⟩
  | .hbm, ⟨1, _⟩ => ⟨S1x2048, .f32⟩
  | .hbm, ⟨2, _⟩ => ⟨S32x2048x256, .f32⟩
  | .hbm, ⟨3, _⟩ => ⟨S32x2048x256, .f32⟩
  | .hbm, ⟨4, _⟩ => ⟨S32x256x2048, .f32⟩
  | .hbm, ⟨5, _⟩ => ⟨S24832x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S256x2048, .f32⟩
  | .local _ .vmem, ⟨10, _⟩ => ⟨S256x2048, .f32⟩
  | .local _ .smem, ⟨0, _⟩ => ⟨S97, .i32⟩
  | .local _ .smem, ⟨1, _⟩ => ⟨S1, .i32⟩
  | _, _ => ⟨S24832x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![97], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S97 : Shape := ⟨1, ![97]⟩
abbrev S1 : Shape := ⟨1, ![1]⟩
abbrev S24832x2048 : Shape := ⟨2, ![24832, 2048]⟩
abbrev S1x2048 : Shape := ⟨2, ![1, 2048]⟩
abbrev S32x2048x256 : Shape := ⟨3, ![32, 2048, 256]⟩
abbrev S32x256x2048 : Shape := ⟨3, ![32, 256, 2048]⟩
abbrev S_ : Shape := ⟨0, ![]⟩
abbrev S24832 : Shape := ⟨1, ![24832]⟩
abbrev S24832x1 : Shape := ⟨2, ![24832, 1]⟩
abbrev S97x1 : Shape := ⟨2, ![97, 1]⟩
abbrev S1x32 : Shape := ⟨2, ![1, 32]⟩
abbrev S97x32 : Shape := ⟨2, ![97, 32]⟩
abbrev S97x256x32 : Shape := ⟨3, ![97, 256, 32]⟩
abbrev S24832x32 : Shape := ⟨2, ![24832, 32]⟩
abbrev S24832x32x256 : Shape := ⟨3, ![24832, 32, 256]⟩
abbrev S24832x32x1 : Shape := ⟨3, ![24832, 32, 1]⟩

abbrev nBuf : Space → Nat
  | .hbm => 54
  | .vmem => 0
  | .smem => 0
  | _ => 0

abbrev bufTy : (tb : Table) → Fin (tcTables nBuf tb) → BufTy
  | .hbm, ⟨0, _⟩ => ⟨S97, .i32⟩
  | .hbm, ⟨1, _⟩ => ⟨S1, .i32⟩
  | .hbm, ⟨2, _⟩ => ⟨S24832x2048, .f32⟩
  | .hbm, ⟨3, _⟩ => ⟨S1x2048, .f32⟩
  | .hbm, ⟨4, _⟩ => ⟨S32x2048x256, .f32⟩
  | .hbm, ⟨5, _⟩ => ⟨S32x2048x256, .f32⟩
  | .hbm, ⟨6, _⟩ => ⟨S32x256x2048, .f32⟩
  | .hbm, ⟨7, _⟩ => ⟨S24832x2048, .f32⟩
  | .hbm, ⟨8, _⟩ => ⟨S_, .f32⟩
  | .hbm, ⟨9, _⟩ => ⟨S24832, .f32⟩
  | .hbm, ⟨10, _⟩ => ⟨S24832x1, .f32⟩
  | .hbm, ⟨11, _⟩ => ⟨S_, .f32⟩
  | .hbm, ⟨12, _⟩ => ⟨S24832x1, .f32⟩
  | .hbm, ⟨13, _⟩ => ⟨S24832x1, .f32⟩
  | .hbm, ⟨14, _⟩ => ⟨S_, .f32⟩
  | .hbm, ⟨15, _⟩ => ⟨S24832x1, .f32⟩
  | .hbm, ⟨16, _⟩ => ⟨S24832x1, .f32⟩
  | .hbm, ⟨17, _⟩ => ⟨S24832x1, .f32⟩
  | .hbm, ⟨18, _⟩ => ⟨S24832x2048, .f32⟩
  | .hbm, ⟨19, _⟩ => ⟨S24832x2048, .f32⟩
  | .hbm, ⟨20, _⟩ => ⟨S24832x2048, .f32⟩
  | .hbm, ⟨21, _⟩ => ⟨S24832x2048, .f32⟩
  | .hbm, ⟨22, _⟩ => ⟨S97, .i32⟩
  | .hbm, ⟨23, _⟩ => ⟨S_, .i32⟩
  | .hbm, ⟨24, _⟩ => ⟨S97, .i32⟩
  | .hbm, ⟨25, _⟩ => ⟨S97, .i1⟩
  | .hbm, ⟨26, _⟩ => ⟨S97, .f32⟩
  | .hbm, ⟨27, _⟩ => ⟨S97x1, .i32⟩
  | .hbm, ⟨28, _⟩ => ⟨S1x32, .i32⟩
  | .hbm, ⟨29, _⟩ => ⟨S97x32, .i32⟩
  | .hbm, ⟨30, _⟩ => ⟨S97x32, .i32⟩
  | .hbm, ⟨31, _⟩ => ⟨S97x32, .i1⟩
  | .hbm, ⟨32, _⟩ => ⟨S97x32, .f32⟩
  | .hbm, ⟨33, _⟩ => ⟨S97x1, .f32⟩
  | .hbm, ⟨34, _⟩ => ⟨S97x32, .f32⟩
  | .hbm, ⟨35, _⟩ => ⟨S97x32, .f32⟩
  | .hbm, ⟨36, _⟩ => ⟨S97x256x32, .f32⟩
  | .hbm, ⟨37, _⟩ => ⟨S24832x32, .f32⟩
  | .hbm, ⟨38, _⟩ => ⟨S24832x32x256, .f32⟩
  | .hbm, ⟨39, _⟩ => ⟨S24832x32x256, .f32⟩
  | .hbm, ⟨40, _⟩ => ⟨S24832x32x256, .f32⟩
  | .hbm, ⟨41, _⟩ => ⟨S_, .f32⟩
  | .hbm, ⟨42, _⟩ => ⟨S24832x32x256, .f32⟩
  | .hbm, ⟨43, _⟩ => ⟨S24832x32x256, .f32⟩
  | .hbm, ⟨44, _⟩ => ⟨S_, .f32⟩
  | .hbm, ⟨45, _⟩ => ⟨S24832x32x256, .f32⟩
  | .hbm, ⟨46, _⟩ => ⟨S24832x32x256, .f32⟩
  | .hbm, ⟨47, _⟩ => ⟨S24832x32x256, .f32⟩
  | .hbm, ⟨48, _⟩ => ⟨S24832x32x256, .f32⟩
  | .hbm, ⟨49, _⟩ => ⟨S24832x32x256, .f32⟩
  | .hbm, ⟨50, _⟩ => ⟨S24832x32x1, .f32⟩
  | .hbm, ⟨51, _⟩ => ⟨S24832x32x256, .f32⟩
  | .hbm, ⟨52, _⟩ => ⟨S24832x32x256, .f32⟩
  | .hbm, ⟨53, _⟩ => ⟨S24832x2048, .f32⟩
  | _, _ => ⟨S97, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]
-- ==== Inproj.lean ====
abbrev S4x2048x2048 : Shape := ⟨3, ![4, 2048, 2048]⟩
abbrev S2048 : Shape := ⟨1, ![2048]⟩
abbrev S2048x8264 : Shape := ⟨2, ![2048, 8264]⟩
abbrev S64 : Shape := ⟨1, ![64]⟩
abbrev S8192x2048 : Shape := ⟨2, ![8192, 2048]⟩
abbrev S8264x2048 : Shape := ⟨2, ![8264, 2048]⟩
abbrev S72x2048 : Shape := ⟨2, ![72, 2048]⟩
abbrev S_ : Shape := ⟨0, ![]⟩
abbrev S56x2048 : Shape := ⟨2, ![56, 2048]⟩
abbrev S128x2048 : Shape := ⟨2, ![128, 2048]⟩
abbrev S1x64 : Shape := ⟨2, ![1, 64]⟩
abbrev S16x64 : Shape := ⟨2, ![16, 64]⟩
abbrev S1024 : Shape := ⟨1, ![1024]⟩
abbrev S4x64 : Shape := ⟨2, ![4, 64]⟩
abbrev S256 : Shape := ⟨1, ![256]⟩
abbrev S4864 : Shape := ⟨1, ![4864]⟩
abbrev S8192 : Shape := ⟨1, ![8192]⟩
abbrev S1280 : Shape := ⟨1, ![1280]⟩
abbrev S512 : Shape := ⟨1, ![512]⟩
abbrev S4096 : Shape := ⟨1, ![4096]⟩
abbrev S5120 : Shape := ⟨1, ![5120]⟩
abbrev S1x8192 : Shape := ⟨2, ![1, 8192]⟩
abbrev S4x8192 : Shape := ⟨2, ![4, 8192]⟩
abbrev S8x8192 : Shape := ⟨2, ![8, 8192]⟩
abbrev S512x1 : Shape := ⟨2, ![512, 1]⟩
abbrev S1x512 : Shape := ⟨2, ![1, 512]⟩
abbrev S512x512 : Shape := ⟨2, ![512, 512]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1x2048 : Shape := ⟨2, ![1, 2048]⟩
abbrev S8192x8192 : Shape := ⟨2, ![8192, 8192]⟩
abbrev S8192x128 : Shape := ⟨2, ![8192, 128]⟩
abbrev S8192x512 : Shape := ⟨2, ![8192, 512]⟩
abbrev S1024x2048 : Shape := ⟨2, ![1024, 2048]⟩
abbrev S512x2048 : Shape := ⟨2, ![512, 2048]⟩
abbrev S8x512 : Shape := ⟨2, ![8, 512]⟩
abbrev S1024x128 : Shape := ⟨2, ![1024, 128]⟩
abbrev S1024x512 : Shape := ⟨2, ![1024, 512]⟩
abbrev S1024x1 : Shape := ⟨2, ![1024, 1]⟩
abbrev S1x128 : Shape := ⟨2, ![1, 128]⟩

abbrev nBuf : Space → Nat
  | .hbm => 106
  | .vmem => 24
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x8264, .f32⟩
  | .hbm, ⟨3, _⟩ => ⟨S64, .f32⟩
  | .hbm, ⟨4, _⟩ => ⟨S64, .f32⟩
  | .hbm, ⟨5, _⟩ => ⟨S8192x2048, .f32⟩
  | .hbm, ⟨6, _⟩ => ⟨S8264x2048, .f32⟩
  | .hbm, ⟨7, _⟩ => ⟨S72x2048, .f32⟩
  | .hbm, ⟨8, _⟩ => ⟨S_, .f32⟩
  | .hbm, ⟨9, _⟩ => ⟨S56x2048, .f32⟩
  | .hbm, ⟨10, _⟩ => ⟨S128x2048, .f32⟩
  | .hbm, ⟨11, _⟩ => ⟨S_, .f32⟩
  | .hbm, ⟨12, _⟩ => ⟨S2048, .f32⟩
  | .hbm, ⟨13, _⟩ => ⟨S1x64, .f32⟩
  | .hbm, ⟨14, _⟩ => ⟨S16x64, .f32⟩
  | .hbm, ⟨15, _⟩ => ⟨S1024, .f32⟩
  | .hbm, ⟨16, _⟩ => ⟨S1x64, .f32⟩
  | .hbm, ⟨17, _⟩ => ⟨S4x64, .f32⟩
  | .hbm, ⟨18, _⟩ => ⟨S256, .f32⟩
  | .hbm, ⟨19, _⟩ => ⟨S_, .f32⟩
  | .hbm, ⟨20, _⟩ => ⟨S4864, .f32⟩
  | .hbm, ⟨21, _⟩ => ⟨S8192, .f32⟩
  | .hbm, ⟨22, _⟩ => ⟨S_, .f32⟩
  | .hbm, ⟨23, _⟩ => ⟨S2048, .f32⟩
  | .hbm, ⟨24, _⟩ => ⟨S_, .f32⟩
  | .hbm, ⟨25, _⟩ => ⟨S1280, .f32⟩
  | .hbm, ⟨26, _⟩ => ⟨S_, .f32⟩
  | .hbm, ⟨27, _⟩ => ⟨S4864, .f32⟩
  | .hbm, ⟨28, _⟩ => ⟨S8192, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S1280, .f32⟩
  | .hbm, ⟨33, _⟩ => ⟨S_, .f32⟩
  | .hbm, ⟨34, _⟩ => ⟨S256, .f32⟩
  | .hbm, ⟨35, _⟩ => ⟨S_, .f32⟩
  | .hbm, ⟨36, _⟩ => ⟨S512, .f32⟩
  | .hbm, ⟨37, _⟩ => ⟨S_, .f32⟩
  | .hbm, ⟨38, _⟩ => ⟨S4096, .f32⟩
  | .hbm, ⟨39, _⟩ => ⟨S8192, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S1024, .f32⟩
  | .hbm, ⟨44, _⟩ => ⟨S_, .f32⟩
  | .hbm, ⟨45, _⟩ => ⟨S5120, .f32⟩
  | .hbm, ⟨46, _⟩ => ⟨S8192, .f32⟩
  | .hbm, ⟨47, _⟩ => ⟨S1x8192, .f32⟩
  | .hbm, ⟨48, _⟩ => ⟨S1x8192, .f32⟩
  | .hbm, ⟨49, _⟩ => ⟨S1x8192, .f32⟩
  | .hbm, ⟨50, _⟩ => ⟨S1x8192, .f32⟩
  | .hbm, ⟨51, _⟩ => ⟨S4x8192, .f32⟩
  | .hbm, ⟨52, _⟩ => ⟨S_, .f32⟩
  | .hbm, ⟨53, _⟩ => ⟨S4x8192, .f32⟩
  | .hbm, ⟨54, _⟩ => ⟨S8x8192, .f32⟩
  | .hbm, ⟨55, _⟩ => ⟨S512, .i32⟩
  | .hbm, ⟨56, _⟩ => ⟨S_, .i32⟩
  | .hbm, ⟨57, _⟩ => ⟨S_, .i32⟩
  | .hbm, ⟨58, _⟩ => ⟨S512, .i32⟩
  | .hbm, ⟨59, _⟩ => ⟨S512, .i32⟩
  | .hbm, ⟨60, _⟩ => ⟨S512, .i32⟩
  | .hbm, ⟨61, _⟩ => ⟨S_, .i32⟩
  | .hbm, ⟨62, _⟩ => ⟨S512, .i32⟩
  | .hbm, ⟨63, _⟩ => ⟨S512, .i1⟩
  | .hbm, ⟨64, _⟩ => ⟨S512, .i32⟩
  | .hbm, ⟨65, _⟩ => ⟨S512, .i32⟩
  | .hbm, ⟨66, _⟩ => ⟨S_, .i32⟩
  | .hbm, ⟨67, _⟩ => ⟨S512, .i32⟩
  | .hbm, ⟨68, _⟩ => ⟨S512, .i1⟩
  | .hbm, ⟨69, _⟩ => ⟨S512, .i1⟩
  | .hbm, ⟨70, _⟩ => ⟨S_, .i32⟩
  | .hbm, ⟨71, _⟩ => ⟨S512, .i32⟩
  | .hbm, ⟨72, _⟩ => ⟨S512, .i32⟩
  | .hbm, ⟨73, _⟩ => ⟨S512, .i32⟩
  | .hbm, ⟨74, _⟩ => ⟨S512x1, .i32⟩
  | .hbm, ⟨75, _⟩ => ⟨S1x512, .i32⟩
  | .hbm, ⟨76, _⟩ => ⟨S512x512, .i32⟩
  | .hbm, ⟨77, _⟩ => ⟨S512x512, .i32⟩
  | .hbm, ⟨78, _⟩ => ⟨S512x512, .i1⟩
  | .hbm, ⟨79, _⟩ => ⟨S512x512, .bf16⟩
  | .hbm, ⟨80, _⟩ => ⟨S2048, .i32⟩
  | .hbm, ⟨81, _⟩ => ⟨S32, .f32⟩
  | .hbm, ⟨82, _⟩ => ⟨S32, .f32⟩
  | .hbm, ⟨83, _⟩ => ⟨S_, .f32⟩
  | .hbm, ⟨84, _⟩ => ⟨S32, .f32⟩
  | .hbm, ⟨85, _⟩ => ⟨S32, .f32⟩
  | .hbm, ⟨86, _⟩ => ⟨S_, .f32⟩
  | .hbm, ⟨87, _⟩ => ⟨S32, .f32⟩
  | .hbm, ⟨88, _⟩ => ⟨S32, .f32⟩
  | .hbm, ⟨89, _⟩ => ⟨S2048, .f32⟩
  | .hbm, ⟨90, _⟩ => ⟨S2048x1, .f32⟩
  | .hbm, ⟨91, _⟩ => ⟨S1x32, .f32⟩
  | .hbm, ⟨92, _⟩ => ⟨S2048x32, .f32⟩
  | .hbm, ⟨93, _⟩ => ⟨S2048x32, .f32⟩
  | .hbm, ⟨94, _⟩ => ⟨S2048x32, .f32⟩
  | .hbm, ⟨95, _⟩ => ⟨S2048x32, .f32⟩
  | .hbm, ⟨96, _⟩ => ⟨S2048x32, .f32⟩
  | .hbm, ⟨97, _⟩ => ⟨S2048x128, .f32⟩
  | .hbm, ⟨98, _⟩ => ⟨S2048x32, .f32⟩
  | .hbm, ⟨99, _⟩ => ⟨S2048x32, .f32⟩
  | .hbm, ⟨100, _⟩ => ⟨S2048x128, .f32⟩
  | .hbm, ⟨101, _⟩ => ⟨S1x2048, .f32⟩
  | .hbm, ⟨102, _⟩ => ⟨S8192x8192, .f32⟩
  | .hbm, ⟨103, _⟩ => ⟨S8192x128, .f32⟩
  | .hbm, ⟨104, _⟩ => ⟨S8192x512, .bf16⟩
  | .hbm, ⟨105, _⟩ => ⟨S8192x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S128x2048, .f32⟩
  | .local _ .vmem, ⟨8, _⟩ => ⟨S8x512, .f32⟩
  | .local _ .vmem, ⟨9, _⟩ => ⟨S8x512, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S512x512, .bf16⟩
  | .local _ .vmem, ⟨15, _⟩ => ⟨S1024x512, .f32⟩
  | .local _ .vmem, ⟨16, _⟩ => ⟨S1024x512, .f32⟩
  | .local _ .vmem, ⟨17, _⟩ => ⟨S1024x128, .f32⟩
  | .local _ .vmem, ⟨18, _⟩ => ⟨S1024x128, .f32⟩
  | .local _ .vmem, ⟨19, _⟩ => ⟨S1024x512, .bf16⟩
  | .local _ .vmem, ⟨20, _⟩ => ⟨S1024x512, .bf16⟩
  | .local _ .vmem, ⟨21, _⟩ => ⟨S1024x128, .bf16⟩
  | .local _ .vmem, ⟨22, _⟩ => ⟨S1024x128, .bf16⟩
  | .local _ .vmem, ⟨23, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_cst_8 : Ref sig .tc := ⟨.hbm, 35, rfl⟩
abbrev main_v21 : Ref sig .tc := ⟨.hbm, 36, rfl⟩
abbrev main_cst_9 : Ref sig .tc := ⟨.hbm, 37, rfl⟩
abbrev main_v22 : Ref sig .tc := ⟨.hbm, 38, rfl⟩
abbrev main_v23 : Ref sig .tc := ⟨.hbm, 39, rfl⟩
abbrev main_cst_10 : Ref sig .tc := ⟨.hbm, 40, rfl⟩
abbrev main_v24 : Ref sig .tc := ⟨.hbm, 41, rfl⟩
abbrev main_cst_11 : Ref sig .tc := ⟨.hbm, 42, rfl⟩
abbrev main_v25 : Ref sig .tc := ⟨.hbm, 43, rfl⟩
abbrev main_cst_12 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_13 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_c : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_0 : Ref sig .tc := ⟨.hbm, 70, rfl⟩
abbrev main_call0_v12 : Ref sig .tc := ⟨.hbm, 71, rfl⟩
abbrev main_call0_v13 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_14 : Ref sig .tc := ⟨.hbm, 83, rfl⟩
abbrev main_v46 : Ref sig .tc := ⟨.hbm, 84, rfl⟩
abbrev main_v47 : Ref sig .tc := ⟨.hbm, 85, rfl⟩
abbrev main_cst_15 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63_0 : Ref sig .tc := ⟨.hbm, 102, rfl⟩
abbrev main_v63_1 : Ref sig .tc := ⟨.hbm, 103, rfl⟩
abbrev main_v63_2 : Ref sig .tc := ⟨.hbm, 104, rfl⟩
abbrev main_v63_3 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c4168_i32 : BitVec 32 := 4168#32
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c512_i32 : BitVec 32 := 512#32
  let v2 : BitVec 32 := Scalar.muli v1 c512_i32
  let v3 : BitVec 32 := Scalar.addi c4168_i32 v2
  v3
def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .sge arg1 c8_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c4_i32 : BitVec 32 := 4#32
  let v9 : BitVec 1 := Scalar.cmpi .sge arg1 c4_i32
  let c7_i32 : BitVec 32 := 7#32
  let v10 : BitVec 1 := Scalar.cmpi .slt arg1 c7_i32
  let v11 : BitVec 1 := Scalar.andi v9 v10
  let v12 : BitVec 32 := Scalar.extui v11
  let c0_i32_4 : BitVec 32 := 0#32
  let v13 : BitVec 1 := Scalar.cmpi .ne v12 c0_i32_4
  v13

def k0_cond5 (i : grid0.Coords) : BitVec 1 :=
  let arg1 : BitVec 32 := BitVec.ofNat 32 (i 1).val
  let c7_i32_5 : BitVec 32 := 7#32
  let v14 : BitVec 1 := Scalar.cmpi .eq arg1 c7_i32_5
  let v15 : BitVec 32 := Scalar.extui v14
  let c0_i32_6 : BitVec 32 := 0#32
  let v16 : BitVec 1 := Scalar.cmpi .ne v15 c0_i32_6
  v16

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond6 (i : grid0.Coords) : BitVec 1 :=
  let arg1 : BitVec 32 := BitVec.ofNat 32 (i 1).val
  let c6_i32 : BitVec 32 := 6#32
  let v17 : BitVec 1 := Scalar.cmpi .eq arg1 c6_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c512_i32 : BitVec 32 := 512#32
  let v2 : BitVec 32 := Scalar.muli v1 c512_i32
  let c4168_i32 : BitVec 32 := 4168#32
  let v3 : BitVec 32 := Scalar.addi c4168_i32 v2
  let v4 : BitVec 32 := v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ProjectionsIdeal.lean ====
abbrev S4x2048x2048 : Shape := ⟨3, ![4, 2048, 2048]⟩
abbrev S2048 : Shape := ⟨1, ![2048]⟩
abbrev S2048x8264 : Shape := ⟨2, ![2048, 8264]⟩
abbrev S64 : Shape := ⟨1, ![64]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x8264 : Shape := ⟨3, ![4, 2048, 8264]⟩
abbrev S4x2048x1024 : Shape := ⟨3, ![4, 2048, 1024]⟩
abbrev S4x2048x256 : Shape := ⟨3, ![4, 2048, 256]⟩
abbrev S4x2048x512 : Shape := ⟨3, ![4, 2048, 512]⟩
abbrev S4x2048x64 : Shape := ⟨3, ![4, 2048, 64]⟩
abbrev S4x2048x8 : Shape := ⟨3, ![4, 2048, 8]⟩
abbrev S4x2048x16x64 : Shape := ⟨4, ![4, 2048, 16, 64]⟩
abbrev S4x2048x16 : Shape := ⟨3, ![4, 2048, 16]⟩
abbrev S4x2048x16x1 : Shape := ⟨4, ![4, 2048, 16, 1]⟩
abbrev S1x1x1x64 : Shape := ⟨4, ![1, 1, 1, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x16x32 : Shape := ⟨4, ![4, 2048, 16, 32]⟩
abbrev S4x2048x4x64 : Shape := ⟨4, ![4, 2048, 4, 64]⟩
abbrev S4x2048x4 : Shape := ⟨3, ![4, 2048, 4]⟩
abbrev S4x2048x4x1 : Shape := ⟨4, ![4, 2048, 4, 1]⟩
abbrev S4x2048x4x32 : Shape := ⟨4, ![4, 2048, 4, 32]⟩
abbrev S4x2048x8x64 : Shape := ⟨4, ![4, 2048, 8, 64]⟩
abbrev S4x2048x8x32 : Shape := ⟨4, ![4, 2048, 8, 32]⟩
abbrev S4x2048x1x64 : Shape := ⟨4, ![4, 2048, 1, 64]⟩
abbrev S4x2048x1x32 : Shape := ⟨4, ![4, 2048, 1, 32]⟩
abbrev S8192x1024 : Shape := ⟨2, ![8192, 1024]⟩
abbrev S8192x256 : Shape := ⟨2, ![8192, 256]⟩
abbrev S8192x512 : Shape := ⟨2, ![8192, 512]⟩
abbrev S8192x2048 : Shape := ⟨2, ![8192, 2048]⟩
abbrev S8192x8192 : Shape := ⟨2, ![8192, 8192]⟩
abbrev S8192x64 : Shape := ⟨2, ![8192, 64]⟩
abbrev S8192x8 : Shape := ⟨2, ![8192, 8]⟩
abbrev S8192x56 : Shape := ⟨2, ![8192, 56]⟩
abbrev S8192x128 : Shape := ⟨2, ![8192, 128]⟩

abbrev nBuf : Space → Nat
  | .hbm => 220
  | .vmem => 0
  | .smem => 0
  | _ => 0

abbrev hbmTy0_0 (i : Nat) : BufTy := match i % 128 with
  | 0 => ⟨S4x2048x2048, .f32⟩
  | 1 => ⟨S2048, .f32⟩
  | 2 => ⟨S2048x8264, .f32⟩
  | 3 => ⟨S64, .f32⟩
  | 4 => ⟨S64, .f32⟩
  | 5 => ⟨S2048, .i32⟩
  | 6 => ⟨S4x2048x2048, .f32⟩
  | 7 => ⟨S_, .f32⟩
  | 8 => ⟨S4x2048, .f32⟩
  | 9 => ⟨S4x2048x1, .f32⟩
  | 10 => ⟨S_, .f32⟩
  | 11 => ⟨S4x2048x1, .f32⟩
  | 12 => ⟨S4x2048x1, .f32⟩
  | 13 => ⟨S_, .f32⟩
  | 14 => ⟨S4x2048x1, .f32⟩
  | 15 => ⟨S4x2048x1, .f32⟩
  | 16 => ⟨S4x2048x1, .f32⟩
  | 17 => ⟨S4x2048x2048, .f32⟩
  | 18 => ⟨S4x2048x2048, .f32⟩
  | 19 => ⟨S1x1x2048, .f32⟩
  | 20 => ⟨S4x2048x2048, .f32⟩
  | 21 => ⟨S4x2048x2048, .f32⟩
  | 22 => ⟨S4x2048x8264, .f32⟩
  | 23 => ⟨S4x2048x1024, .f32⟩
  | 24 => ⟨S4x2048x1024, .f32⟩
  | 25 => ⟨S4x2048x1024, .f32⟩
  | 26 => ⟨S4x2048x256, .f32⟩
  | 27 => ⟨S4x2048x256, .f32⟩
  | 28 => ⟨S4x2048x512, .f32⟩
  | 29 => ⟨S4x2048x64, .f32⟩
  | 30 => ⟨S4x2048x8, .f32⟩
  | 31 => ⟨S4x2048x2048, .f32⟩
  | 32 => ⟨S4x2048x2048, .f32⟩
  | 33 => ⟨S4x2048x16x64, .f32⟩
  | 34 => ⟨S4x2048x16x64, .f32⟩
  | 35 => ⟨S_, .f32⟩
  | 36 => ⟨S4x2048x16, .f32⟩
  | 37 => ⟨S4x2048x16x1, .f32⟩
  | 38 => ⟨S_, .f32⟩
  | 39 => ⟨S4x2048x16x1, .f32⟩
  | 40 => ⟨S4x2048x16x1, .f32⟩
  | 41 => ⟨S_, .f32⟩
  | 42 => ⟨S4x2048x16x1, .f32⟩
  | 43 => ⟨S4x2048x16x1, .f32⟩
  | 44 => ⟨S4x2048x16x1, .f32⟩
  | 45 => ⟨S4x2048x16x64, .f32⟩
  | 46 => ⟨S4x2048x16x64, .f32⟩
  | 47 => ⟨S1x1x1x64, .f32⟩
  | 48 => ⟨S4x2048x16x64, .f32⟩
  | 49 => ⟨S4x2048x16x64, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S2048, .f32⟩
  | 59 => ⟨S2048x1, .f32⟩
  | 60 => ⟨S1x32, .f32⟩
  | 61 => ⟨S2048x32, .f32⟩
  | 62 => ⟨S2048x32, .f32⟩
  | 63 => ⟨S2048x32, .f32⟩
  | 64 => ⟨S2048x32, .f32⟩
  | 65 => ⟨S1x2048x1x32, .f32⟩
  | 66 => ⟨S2048x32, .f32⟩
  | 67 => ⟨S1x2048x1x32, .f32⟩
  | 68 => ⟨S4x2048x16x32, .f32⟩
  | 69 => ⟨S4x2048x16x32, .f32⟩
  | 70 => ⟨S4x2048x16x32, .f32⟩
  | 71 => ⟨S4x2048x16x32, .f32⟩
  | 72 => ⟨S4x2048x16x32, .f32⟩
  | 73 => ⟨S4x2048x16x32, .f32⟩
  | 74 => ⟨S4x2048x16x32, .f32⟩
  | 75 => ⟨S4x2048x16x32, .f32⟩
  | 76 => ⟨S4x2048x16x32, .f32⟩
  | 77 => ⟨S4x2048x16x32, .f32⟩
  | 78 => ⟨S4x2048x16x32, .f32⟩
  | 79 => ⟨S4x2048x16x32, .f32⟩
  | 80 => ⟨S4x2048x16x64, .f32⟩
  | 81 => ⟨S4x2048x4x64, .f32⟩
  | 82 => ⟨S4x2048x4x64, .f32⟩
  | 83 => ⟨S_, .f32⟩
  | 84 => ⟨S4x2048x4, .f32⟩
  | 85 => ⟨S4x2048x4x1, .f32⟩
  | 86 => ⟨S_, .f32⟩
  | 87 => ⟨S4x2048x4x1, .f32⟩
  | 88 => ⟨S4x2048x4x1, .f32⟩
  | 89 => ⟨S_, .f32⟩
  | 90 => ⟨S4x2048x4x1, .f32⟩
  | 91 => ⟨S4x2048x4x1, .f32⟩
  | 92 => ⟨S4x2048x4x1, .f32⟩
  | 93 => ⟨S4x2048x4x64, .f32⟩
  | 94 => ⟨S4x2048x4x64, .f32⟩
  | 95 => ⟨S1x1x1x64, .f32⟩
  | 96 => ⟨S4x2048x4x64, .f32⟩
  | 97 => ⟨S4x2048x4x64, .f32⟩
  | 98 => ⟨S32, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S2048, .f32⟩
  | 107 => ⟨S2048x1, .f32⟩
  | 108 => ⟨S1x32, .f32⟩
  | 109 => ⟨S2048x32, .f32⟩
  | 110 => ⟨S2048x32, .f32⟩
  | 111 => ⟨S2048x32, .f32⟩
  | 112 => ⟨S2048x32, .f32⟩
  | 113 => ⟨S1x2048x1x32, .f32⟩
  | 114 => ⟨S2048x32, .f32⟩
  | 115 => ⟨S1x2048x1x32, .f32⟩
  | 116 => ⟨S4x2048x4x32, .f32⟩
  | 117 => ⟨S4x2048x4x32, .f32⟩
  | 118 => ⟨S4x2048x4x32, .f32⟩
  | 119 => ⟨S4x2048x4x32, .f32⟩
  | 120 => ⟨S4x2048x4x32, .f32⟩
  | 121 => ⟨S4x2048x4x32, .f32⟩
  | 122 => ⟨S4x2048x4x32, .f32⟩
  | 123 => ⟨S4x2048x4x32, .f32⟩
  | 124 => ⟨S4x2048x4x32, .f32⟩
  | 125 => ⟨S4x2048x4x32, .f32⟩
  | 126 => ⟨S4x2048x4x32, .f32⟩
  | 127 => ⟨S4x2048x4x32, .f32⟩
  | _ => ⟨S4x2048x2048, .f32⟩

abbrev hbmTy0_1 (i : Nat) : BufTy := match i % 128 with
  | 0 => ⟨S4x2048x4x64, .f32⟩
  | 1 => ⟨S4x2048x8x64, .f32⟩
  | 2 => ⟨S32, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S2048, .f32⟩
  | 11 => ⟨S2048x1, .f32⟩
  | 12 => ⟨S1x32, .f32⟩
  | 13 => ⟨S2048x32, .f32⟩
  | 14 => ⟨S2048x32, .f32⟩
  | 15 => ⟨S2048x32, .f32⟩
  | 16 => ⟨S2048x32, .f32⟩
  | 17 => ⟨S1x2048x1x32, .f32⟩
  | 18 => ⟨S2048x32, .f32⟩
  | 19 => ⟨S1x2048x1x32, .f32⟩
  | 20 => ⟨S4x2048x8x32, .f32⟩
  | 21 => ⟨S4x2048x8x32, .f32⟩
  | 22 => ⟨S4x2048x8x32, .f32⟩
  | 23 => ⟨S4x2048x8x32, .f32⟩
  | 24 => ⟨S4x2048x8x32, .f32⟩
  | 25 => ⟨S4x2048x8x32, .f32⟩
  | 26 => ⟨S4x2048x8x32, .f32⟩
  | 27 => ⟨S4x2048x8x32, .f32⟩
  | 28 => ⟨S4x2048x8x32, .f32⟩
  | 29 => ⟨S4x2048x8x32, .f32⟩
  | 30 => ⟨S4x2048x8x32, .f32⟩
  | 31 => ⟨S4x2048x8x32, .f32⟩
  | 32 => ⟨S4x2048x8x64, .f32⟩
  | 33 => ⟨S4x2048x1x64, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S2048, .f32⟩
  | 43 => ⟨S2048x1, .f32⟩
  | 44 => ⟨S1x32, .f32⟩
  | 45 => ⟨S2048x32, .f32⟩
  | 46 => ⟨S2048x32, .f32⟩
  | 47 => ⟨S2048x32, .f32⟩
  | 48 => ⟨S2048x32, .f32⟩
  | 49 => ⟨S1x2048x1x32, .f32⟩
  | 50 => ⟨S2048x32, .f32⟩
  | 51 => ⟨S1x2048x1x32, .f32⟩
  | 52 => ⟨S4x2048x1x32, .f32⟩
  | 53 => ⟨S4x2048x1x32, .f32⟩
  | 54 => ⟨S4x2048x1x32, .f32⟩
  | 55 => ⟨S4x2048x1x32, .f32⟩
  | 56 => ⟨S4x2048x1x32, .f32⟩
  | 57 => ⟨S4x2048x1x32, .f32⟩
  | 58 => ⟨S4x2048x1x32, .f32⟩
  | 59 => ⟨S4x2048x1x32, .f32⟩
  | 60 => ⟨S4x2048x1x32, .f32⟩
  | 61 => ⟨S4x2048x1x32, .f32⟩
  | 62 => ⟨S4x2048x1x32, .f32⟩
  | 63 => ⟨S4x2048x1x32, .f32⟩
  | 64 => ⟨S4x2048x1x64, .f32⟩
  | 65 => ⟨S4x2048x64, .f32⟩
  | 66 => ⟨S_, .f32⟩
  | 67 => ⟨S4x2048x16x64, .f32⟩
  | 68 => ⟨S4x2048x16x64, .f32⟩
  | 69 => ⟨S8192x1024, .f32⟩
  | 70 => ⟨S8192x1024, .f32⟩
  | 71 => ⟨S8192x1024, .f32⟩
  | 72 => ⟨S8192x256, .f32⟩
  | 73 => ⟨S8192x256, .f32⟩
  | 74 => ⟨S8192x512, .f32⟩
  | 75 => ⟨S8192x2048, .f32⟩
  | 76 => ⟨S8192x2048, .f32⟩
  | 77 => ⟨S8192x8192, .f32⟩
  | 78 => ⟨S8192x64, .f32⟩
  | 79 => ⟨S8192x8, .f32⟩
  | 80 => ⟨S_, .f32⟩
  | 81 => ⟨S8192x56, .f32⟩
  | 82 => ⟨S8192x128, .f32⟩
  | 83 => ⟨S8192x256, .f32⟩
  | 84 => ⟨S8192x256, .f32⟩
  | 85 => ⟨S8192x512, .f32⟩
  | 86 => ⟨S8192x64, .f32⟩
  | 87 => ⟨S_, .f32⟩
  | 88 => ⟨S8192x64, .f32⟩
  | 89 => ⟨S8192x128, .f32⟩
  | 90 => ⟨S8192x512, .bf16⟩
  | 91 => ⟨S8192x128, .bf16⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_7 : Ref sig .tc := ⟨.hbm, 83, rfl⟩
abbrev main_v70 : Ref sig .tc := ⟨.hbm, 84, rfl⟩
abbrev main_v71 : Ref sig .tc := ⟨.hbm, 85, rfl⟩
abbrev main_cst_8 : Ref sig .tc := ⟨.hbm, 86, rfl⟩
abbrev main_v72 : Ref sig .tc := ⟨.hbm, 87, rfl⟩
abbrev main_v73 : Ref sig .tc := ⟨.hbm, 88, rfl⟩
abbrev main_cst_9 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_10 : Ref sig .tc := ⟨.hbm, 100, rfl⟩
abbrev main_v84 : Ref sig .tc := ⟨.hbm, 101, rfl⟩
abbrev main_v85 : Ref sig .tc := ⟨.hbm, 102, rfl⟩
abbrev main_cst_11 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_cst_12 : Ref sig .tc := ⟨.hbm, 132, rfl⟩
abbrev main_v114 : Ref sig .tc := ⟨.hbm, 133, rfl⟩
abbrev main_v115 : Ref sig .tc := ⟨.hbm, 134, rfl⟩
abbrev main_cst_13 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_cst_14 : Ref sig .tc := ⟨.hbm, 164, rfl⟩
abbrev main_v144 : Ref sig .tc := ⟨.hbm, 165, rfl⟩
abbrev main_v145 : Ref sig .tc := ⟨.hbm, 166, rfl⟩
abbrev main_cst_15 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_cst_16 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_cst_17 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_cst_18 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩

abbrev nD : Nat := 1
abbrev τ : Topo := Topo.v7x

variable {F : FTy → Type} [FloatOps F]
-- ==== Proof.Body.lean ====
/- One tile of the experts' kernel: what the body leaves in the result's block, for a tile in use and for one that is not. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Pipeline.TableIdle
public import Idealize.ShloMosaic.Lib.VecWindow
public import Idealize.ShloMosaic.Lib.Writes
public import Idealize.ShloMosaic.Lib.Exec
public import Idealize.ShloMosaic.Lib.Tactic
public import Idealize.ShloMosaic.Lib.WordCmp
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of the tiles' experts and the count of tiles in use, as the kernel is handed them. -/
abbrev teM : Memref sig .tc .smem S97 .i32 := Memref.whole main_arg0
abbrev nuM : Memref sig .tc .smem S1 .i32 := Memref.whole main_arg1

/-- The count of tiles in use, as a tile's body reads it. -/
def count (T1 : S1.Idx → Elt F .i32) : BitVec 32 :=
  View.readAt (Elt F) (nuM).view (Rect.unit (s := S1) ![0] S1.size inb_S1_S1_0).toLoadRect T1
    (Shape.Idx.first (numel1_S1.symm ▸ Nat.one_pos))

/-- A bit widened to a word and compared with zero is the bit itself. -/
theorem widened_ne_zero (b : Bool) : IntOp.cmpi .ne ((BitVec.ofBool b).setWidth 32) 0#32 = 1#1 ↔ b = true := by
  cases b <;> decide

/-- The kernel's first test says that the tile's number is below the count. -/
theorem cond1_iff (i : grid0.Coords) (w : BitVec 32) : k0_cond1 i w = 1#1 ↔ (BitVec.ofNat 32 (i 0).val).toInt < w.toInt :=
  (widened_ne_zero _).trans decide_eq_true_iff

/-- The kernel's second test is the first one denied. -/
theorem cond2_iff (i : grid0.Coords) (w : BitVec 32) : k0_cond2 i w = 1#1 ↔ ¬ k0_cond1 i w = 1#1 := by
  rw [cond1_iff, Int.not_lt]
  exact (widened_ne_zero _).trans decide_eq_true_iff

/-- What a tile leaves in its block of the result: the expert's rows if the tile is in use, zeros otherwise. -/
def tileOut (i : grid0.Coords) (w : BitVec 32) (x0 : S256x2048.Idx → Elt F .f32) (x1 : S1x2048.Idx → Elt F .f32)
    (x2 x3 : S1x2048x256.Idx → Elt F .f32) (x4 : S1x256x2048.Idx → Elt F .f32) : S256x2048.Idx → Elt F .f32 :=
  if k0_cond1 i w = 1#1 then k0_pay2 (F := F) x0 x1 x2 x3 x4 else k0_pay1 (F := F)

set_option maxHeartbeats 4000000 in
/-- The body of one tile, from the rows, the norm's weights and the expert's matrices to the block of the result. -/
theorem body_run (c : Dev nD) (i : grid0.Coords) (arg3 : Memref sig .tc .vmem S256x2048 .f32) (harg3 : arg3.IsWhole)
    (arg4 : Memref sig .tc .vmem S1x2048 .f32) (harg4 : arg4.IsWhole)
    (arg5 : Memref sig .tc .vmem S1x2048x256 .f32) (harg5 : arg5.IsWhole)
    (arg6 : Memref sig .tc .vmem S1x2048x256 .f32) (harg6 : arg6.IsWhole)
    (arg7 : Memref sig .tc .vmem S1x256x2048 .f32) (harg7 : arg7.IsWhole)
    (arg8 : Memref sig .tc .vmem S256x2048 .f32) (harg8 : arg8.IsWhole)
    (T0 : S97.Idx → Elt F .i32) (T1 : S1.Idx → Elt F .i32)
    (x0 : S256x2048.Idx → Elt F .f32) (x1 : S1x2048.Idx → Elt F .f32)
    (x2 x3 : S1x2048x256.Idx → Elt F .f32) (x4 : S1x256x2048.Idx → Elt F .f32) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (teM.view.loc (c : Thread nD τ) ↦{fullShare.right} T0)
          ∗ (nuM.view.loc (c : Thread nD τ) ↦{fullShare.right} T1)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (teM.view.loc (c : Thread nD τ) ↦{fullShare.right} T0)
              ∗ (nuM.view.loc (c : Thread nD τ) ↦{fullShare.right} T1)
              ∗ owns (c : Thread nD τ) arg8 fullShare (tileOut i (count T1) x0 x1 x2 x3 x4)) -∗ K ⟨⟩))
      ⊢ wp frame (wpE (defs₀ (F := F)) Variants.none c none) Set.univ
          (cc0_moe_experts i teM (Memref.isWhole_whole _) nuM (Memref.isWhole_whole _) arg3 harg3 arg4 harg4 arg5 harg5
            arg6 harg6 arg7 harg7 arg8 harg8) K := by
  have hT0 : teM.IsWhole := Memref.isWhole_whole _
  have hT1 : nuM.IsWhole := Memref.isWhole_whole _
  unfold owns tileOut
  rw [cc0_moe_experts_eq_skeleton]; unfold cc0_moe_experts_skel
  by_cases h1 : k0_cond1 i (count T1) = 1#1
  · have h2 : ¬ k0_cond2 i (count T1) = 1#1 := by rw [cond2_iff]; exact not_not_intro h1
    rw [if_pos h1]
    unfold count at h1 h2
    iintro ⟨H0, H1, H2, H3, H4, HT0, HT1, ⟨%d5, %f5, -, HO5⟩, Hk⟩
    sl_exec! (disch := first | (guard_target = k0_cond1 _ _ = _; exact h1) | (guard_target = ¬(k0_cond2 _ _ = _); exact h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _
    isplitr; swap
    · iexact HO5
    · ipureintro
      unfold body_run.sl.HO5_1 body_run.sl.r_1
      rw [View.read_writes_full]
      congr 1 <;> exact View.readAt_rep_full _ _ _
  · have h2 : k0_cond2 i (count T1) = 1#1 := (cond2_iff i _).2 h1
    rw [if_neg h1]
    unfold count at h1 h2
    iintro ⟨H0, H1, H2, H3, H4, HT0, HT1, ⟨%d5, %f5, -, HO5⟩, Hk⟩
    sl_exec! (disch := first | (guard_target = ¬(k0_cond1 _ _ = _); exact h1) | (guard_target = k0_cond2 _ _ = _; exact h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _
    isplitr; swap
    · iexact HO5
    · ipureintro
      exact View.read_writes_full _ _ _ _ _

end Cert.KernelIdeal.Experts

end
-- ==== Proof.Launch.lean ====
/- The run of the experts' pallas_call at any admissible tables: what the result array holds at the end. -/
module

public import proofs.«01_k».proof.Proof.Body

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/- `a` the admissible tables, `m` the memory at the start. -/
variable (a : (pcfg0 (F := F)).Adm)
variable (m : (ℓ : Loc nD τ sig) → Buf (Elt F) ℓ) (ρ : Dev nD → PrngReg)

/-- The pipeline at the tables `a`. -/
abbrev cfgA : Pipeline.Cfg sig Λ₀ := cfg0 (F := F) a
abbrev pcs : Fin 1 → Pipeline.Cfg sig Λ₀ := Pipeline.pin (pcfgs (F := F)) fun _ => a

/-- Tile `t`'s coordinates and the staging buffers of each window there. -/
abbrev crd (t : Fin (cfgA a).N) : (cfgA a).grid.Coords := (cfgA a).grid.coords t
abbrev st0 (t : Fin (cfgA a).N) : Memref sig .tc .vmem S256x2048 .f32 := spec0_0.stage ((cfgA a).slots t (0 : Fin 6))
abbrev wh0 (t : Fin (cfgA a).N) : (st0 a t).IsWhole := hstage0_0 (((cfgA a).slots t (0 : Fin 6)).cast nbuf0_0)
abbrev st1 (t : Fin (cfgA a).N) : Memref sig .tc .vmem S1x2048 .f32 := spec0_1.stage ((cfgA a).slots t (1 : Fin 6))
abbrev wh1 (t : Fin (cfgA a).N) : (st1 a t).IsWhole := hstage0_1 (((cfgA a).slots t (1 : Fin 6)).cast nbuf0_1)
abbrev st2 (t : Fin (cfgA a).N) : Memref sig .tc .vmem S1x2048x256 .f32 := spec0_2.stage ((cfgA a).slots t (2 : Fin 6))
abbrev wh2 (t : Fin (cfgA a).N) : (st2 a t).IsWhole := hstage0_2 (((cfgA a).slots t (2 : Fin 6)).cast nbuf0_2)
abbrev st3 (t : Fin (cfgA a).N) : Memref sig .tc .vmem S1x2048x256 .f32 := spec0_3.stage ((cfgA a).slots t (3 : Fin 6))
abbrev wh3 (t : Fin (cfgA a).N) : (st3 a t).IsWhole := hstage0_3 (((cfgA a).slots t (3 : Fin 6)).cast nbuf0_3)
abbrev st4 (t : Fin (cfgA a).N) : Memref sig .tc .vmem S1x256x2048 .f32 := spec0_4.stage ((cfgA a).slots t (4 : Fin 6))
abbrev wh4 (t : Fin (cfgA a).N) : (st4 a t).IsWhole := hstage0_4 (((cfgA a).slots t (4 : Fin 6)).cast nbuf0_4)
abbrev st5 (t : Fin (cfgA a).N) : Memref sig .tc .vmem S256x2048 .f32 := spec0_5.stage ((cfgA a).slots t (5 : Fin 6))
abbrev wh5 (t : Fin (cfgA a).N) : (st5 a t).IsWhole := hstage0_5 (((cfgA a).slots t (5 : Fin 6)).cast nbuf0_5)

/-- Window `w`'s block at tile `t`, read off its array at the start. -/
def iblk (c : Dev nD) (w : Fin (cfgA a).W) (t : Fin (cfgA a).N) :
    (((cfgA a).win w).xblock (crd a t)).Idx → Elt F ((cfgA a).win w).elt :=
  (((cfgA a).win w).blk t).view.read (Elt F) (m (((cfgA a).win w).arr.view.loc (c : Thread nD τ)))

/-- What tile `t` leaves in its block of the result. -/
def outAt (c : Dev nD) (t : Fin (cfgA a).N) : S256x2048.Idx → Elt F .f32 :=
  tileOut (F := F) (crd a t) (count (F := F) (a.1 1)) (iblk a m c (0 : Fin 6) t) (iblk a m c (1 : Fin 6) t)
    (iblk a m c (2 : Fin 6) t) (iblk a m c (3 : Fin 6) t) (iblk a m c (4 : Fin 6) t)

/-- Between tiles the body holds its halves of the two tables. -/
def Phi (c : Dev nD) : sProp 𝕄 :=
  iprop((teM.view.loc (c : Thread nD τ) ↦{fullShare.right} a.1 0) ∗ (nuM.view.loc (c : Thread nD τ) ↦{fullShare.right} a.1 1))

/-- The proof data of the pipeline on core `c`. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 6) t
    | ⟨1, _⟩ => iblk a m c (1 : Fin 6) t
    | ⟨2, _⟩ => iblk a m c (2 : Fin 6) t
    | ⟨3, _⟩ => iblk a m c (3 : Fin 6) t
    | ⟨4, _⟩ => iblk a m c (4 : Fin 6) t
    | ⟨5, _⟩ => outAt a m c t
  Φ _ := Phi a c
  q _ := fullShare
  owed _ := 0

theorem after_0 (c : Dev nD) (t : Fin (cfgA a).N) : (dats a m 0 c).after (0 : Fin 6) t = iblk a m c (0 : Fin 6) t := rfl
theorem after_1 (c : Dev nD) (t : Fin (cfgA a).N) : (dats a m 0 c).after (1 : Fin 6) t = iblk a m c (1 : Fin 6) t := rfl
theorem after_2 (c : Dev nD) (t : Fin (cfgA a).N) : (dats a m 0 c).after (2 : Fin 6) t = iblk a m c (2 : Fin 6) t := rfl
theorem after_3 (c : Dev nD) (t : Fin (cfgA a).N) : (dats a m 0 c).after (3 : Fin 6) t = iblk a m c (3 : Fin 6) t := rfl
theorem after_4 (c : Dev nD) (t : Fin (cfgA a).N) : (dats a m 0 c).after (4 : Fin 6) t = iblk a m c (4 : Fin 6) t := rfl
theorem after_5 (c : Dev nD) (t : Fin (cfgA a).N) : (dats a m 0 c).after (5 : Fin 6) t = outAt a m c t := rfl

/-- Each input window holds its block when the body runs, fetched there or not. -/
theorem before_0 (c : Dev nD) (t : Fin (cfgA a).N) (d) : (dats a m 0 c).before (0 : Fin 6) t d = iblk a m c (0 : Fin 6) t :=
  ((dats a m 0 c).before_in_eq_fetched (0 : Fin 6) rfl (fun _ => rfl) (fun _ _ _ => rfl)
    (fun t => by rw [after_0]; unfold Dat.blockOf iblk; rfl) t d).trans (by unfold Dat.fetched Dat.blockOf iblk; rfl)
theorem before_1 (c : Dev nD) (t : Fin (cfgA a).N) (d) : (dats a m 0 c).before (1 : Fin 6) t d = iblk a m c (1 : Fin 6) t :=
  ((dats a m 0 c).before_in_eq_fetched (1 : Fin 6) rfl (fun _ => rfl) (fun _ _ _ => rfl)
    (fun t => by rw [after_1]; unfold Dat.blockOf iblk; rfl) t d).trans (by unfold Dat.fetched Dat.blockOf iblk; rfl)
theorem before_2 (c : Dev nD) (t : Fin (cfgA a).N) (d) : (dats a m 0 c).before (2 : Fin 6) t d = iblk a m c (2 : Fin 6) t :=
  ((dats a m 0 c).before_in_eq_fetched (2 : Fin 6) rfl (fun _ => rfl) (fun _ _ _ => rfl)
    (fun t => by rw [after_2]; unfold Dat.blockOf iblk; rfl) t d).trans (by unfold Dat.fetched Dat.blockOf iblk; rfl)
theorem before_3 (c : Dev nD) (t : Fin (cfgA a).N) (d) : (dats a m 0 c).before (3 : Fin 6) t d = iblk a m c (3 : Fin 6) t :=
  ((dats a m 0 c).before_in_eq_fetched (3 : Fin 6) rfl (fun _ => rfl) (fun _ _ _ => rfl)
    (fun t => by rw [after_3]; unfold Dat.blockOf iblk; rfl) t d).trans (by unfold Dat.fetched Dat.blockOf iblk; rfl)
theorem before_4 (c : Dev nD) (t : Fin (cfgA a).N) (d) : (dats a m 0 c).before (4 : Fin 6) t d = iblk a m c (4 : Fin 6) t :=
  ((dats a m 0 c).before_in_eq_fetched (4 : Fin 6) rfl (fun _ => rfl) (fun _ _ _ => rfl)
    (fun t => by rw [after_4]; unfold Dat.blockOf iblk; rfl) t d).trans (by unfold Dat.fetched Dat.blockOf iblk; rfl)

/-- The result's block is stored at every tile: one of the two tests always holds. -/
theorem idle_5 (t : Fin (cfgA a).N) : (cfgA a).idle (5 : Fin 6) ((cfgA a).grid.coords t) = false := by
  change (!(k0_cond1 _ _ == 1#1) && !(k0_cond2 _ _ == 1#1)) = false
  rw [Bool.and_eq_false_iff, Bool.not_eq_false', Bool.not_eq_false', beq_iff_eq, beq_iff_eq]
  exact (em _).imp_right (cond2_iff _ _).2

/-- The body at tile `t`, as the pipeline calls it. -/
abbrev bodyAt (t : Fin (cfgA a).N) : Prog (TpuEff nD τ sig (Elt F) Λ₀ .tc) PUnit :=
  cc0_moe_experts (crd a t) (Memref.whole main_arg0) (Memref.isWhole_whole _) (Memref.whole main_arg1) (Memref.isWhole_whole _)
    (st0 a t) (wh0 a t) (st1 a t) (wh1 a t) (st2 a t) (wh2 a t) (st3 a t) (wh3 a t) (st4 a t) (wh4 a t) (st5 a t) (wh5 a t)

set_option maxHeartbeats 4000000 in
/-- One tile under the pipeline. -/
theorem sound_body (c : Dev nD) (t : Fin (cfgA a).N) :
    iprop((dats a m 0 c).Φ t.castSucc ∗ (dats a m 0 c).owesAt () t.castSucc
        ∗ (∃ d, owns (c : Thread nD τ) (st0 a t) fullShare ((dats a m 0 c).before (0 : Fin 6) t d))
        ∗ (∃ d, owns (c : Thread nD τ) (st1 a t) fullShare ((dats a m 0 c).before (1 : Fin 6) t d))
        ∗ (∃ d, owns (c : Thread nD τ) (st2 a t) fullShare ((dats a m 0 c).before (2 : Fin 6) t d))
        ∗ (∃ d, owns (c : Thread nD τ) (st3 a t) fullShare ((dats a m 0 c).before (3 : Fin 6) t d))
        ∗ (∃ d, owns (c : Thread nD τ) (st4 a t) fullShare ((dats a m 0 c).before (4 : Fin 6) t d))
        ∗ (∃ d, owns (c : Thread nD τ) (st5 a t) fullShare ((dats a m 0 c).before (5 : Fin 6) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle_5 a t]
  simp only [before_0, before_1, before_2, before_3, before_4, after_0, after_1, after_2, after_3, after_4, after_5]
  rewrite [show (dats a m 0 c).Φ t.succ = Phi a c from rfl, show (dats a m 0 c).Φ t.castSucc = Phi a c from rfl,
    show (dats a m 0 c).owesAt () t.succ = (dats a m 0 c).owesAt () t.castSucc from rfl]
  unfold Phi
  iintro ⟨⟨HT0, HT1⟩, Ho, ⟨%d0, H0⟩, ⟨%d1, H1⟩, ⟨%d2, H2⟩, ⟨%d3, H3⟩, ⟨%d4, H4⟩, ⟨%d5, H5⟩⟩
  iapply (body_run (F := F) c (crd a t) (st0 a t) (wh0 a t) (st1 a t) (wh1 a t) (st2 a t) (wh2 a t) (st3 a t) (wh3 a t)
    (st4 a t) (wh4 a t) (st5 a t) (wh5 a t) (a.1 0) (a.1 1) (iblk a m c (0 : Fin 6) t) (iblk a m c (1 : Fin 6) t)
    (iblk a m c (2 : Fin 6) t) (iblk a m c (3 : Fin 6) t) (iblk a m c (4 : Fin 6) t) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists _; iexact H5
  iintro ⟨H0, H1, H2, H3, H4, HT0, HT1, H5⟩
  isplitl [HT0 HT1]
  · isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  unfold outAt; iexact H5

/-- The pipeline's obligation, at every tile. -/
theorem body_obligation (c : Dev nD) : BodyObligation (dats a m 0 c) (defs₀ (F := F)) Variants.none () Set.univ := fun t => by
  rw [bigSep_W0]
  exact sound_body a m c t

/-! ## The launch -/

/-- The rounds library's launch element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m 0 c).share w = fullShare := by unfold Dat.share; split <;> rfl

/-- The two tables, one by one. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) a.1 ∗ Pipeline.scopedRest spec0 c) ⊢ (dats a m 0 c).Φ 0 := by
  rw [tables_eq, scopedRest0_eq, show (dats a m 0 c).Φ 0 = Phi a c from rfl]
  unfold Phi
  iintro ⟨-, ⟨HT0, HT1⟩, -⟩
  isplitl [HT0]
  · iexact HT0
  iexact HT1

theorem phi_exit (c : Dev nD) : (dats a m 0 c).Φ (Fin.last (cfgA a).N) ⊢ iprop(BI.emp ∗ Pipeline.scopedRest spec0 c) := by
  rw [scopedRest0_eq]
  iintro -
  isplitr; · iempintro
  iempintro

/-- At the end every array holds what the pipeline computes, and the tables hold what they held. -/
def Post : PUnit × MemSt nD τ sig (Elt F) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- From a memory whose tables are `a`: every execution ends, in a state that `Post` describes, all counters at zero. -/
theorem run_main (ht : ∀ (c : Dev nD) (j : Fin 2), m ((c : Thread nD τ).loc (pre0.ref j)) = a.1 j) :
    θ_run (defs (F := F)) (onTc (τ := τ) (main (F := F))) ⟨m, fun _ => 0, ρ⟩ (fun r => Post a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre emb₁ defs₀ Variants.none m ρ main
    (hbody := fun c => (body_obligation a m c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := F)).win.arr_inj c (launch0 (F := F)).arr_whole
      (share_eq a m c) _ _ fun _ => rfl)
    (hpf := ht)
    (X := fun _ => iprop(emp)) (Y := fun _ => iprop(emp)) (Z := fun _ => iprop(emp))
    (hX := fun c => by rw [unscopedRestP0_eq]; iintro -; isplitr <;> iempintro)
    (hin := phi_intro a m)
    (hout := phi_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments at the end. -/
theorem run_args (ht : ∀ (c : Dev nD) (j : Fin 2), m ((c : Thread nD τ).loc (pre0.ref j)) = a.1 j)
    (r : PUnit × MemSt nD τ sig (Elt F)) (h : Post a m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 0).trans (ht c 0).symm, ((h c).2 1).trans (ht c 1).symm,
    ((h c).1 (0 : Fin 6)).trans ((dats a m 0 c).arrAt_in (0 : Fin 6) rfl _),
    ((h c).1 (1 : Fin 6)).trans ((dats a m 0 c).arrAt_in (1 : Fin 6) rfl _),
    ((h c).1 (2 : Fin 6)).trans ((dats a m 0 c).arrAt_in (2 : Fin 6) rfl _),
    ((h c).1 (3 : Fin 6)).trans ((dats a m 0 c).arrAt_in (3 : Fin 6) rfl _),
    ((h c).1 (4 : Fin 6)).trans ((dats a m 0 c).arrAt_in (4 : Fin 6) rfl _)⟩

end Cert.KernelIdeal.Experts

end
-- ==== Proof.Tables.lean ====
/- The precondition makes the kernel's tables admissible; the frame of the kernel follows at any float values. -/
module

public import proofs.«01_k».proof.Proof.Launch
public import proofs.«01_k».proof.Proof.Gen.Pre_experts_named

@[expose] public section

set_option maxRecDepth 16384

noncomputable section

namespace Cert.KernelIdeal.Experts

open Cert.KernelIdeal Cert.KernelIdeal.Gen
open Idealize.ShloMosaic
open Idealize.ShloMosaic.TcCoe
open Idealize.SL.Sem

variable {F : FTy → Type} [FloatOps F]

/-- A word that is at least zero and at most 31 as a signed number is a number up to 31. -/
theorem word_le (w : BitVec 32) (h : IntOp.andi (IntOp.cmpi .sge w 0#32) (IntOp.cmpi .sle w 31#32) = 1#1) : w.toNat ≤ 31 := by
  have h' : (BitVec.ofBool ((0#32).sle w) &&& BitVec.ofBool (w.sle 31#32)) = 1#1 := h
  have h1 : (0#32).sle w = true := by
    by_contra hc; rw [Bool.not_eq_true] at hc; rw [hc] at h'; revert h'; cases w.sle 31#32 <;> decide
  have h2 : w.sle 31#32 = true := by
    by_contra hc; rw [Bool.not_eq_true] at hc; rw [hc] at h'; revert h'; cases (0#32).sle w <;> decide
  rw [BitVec.sle_iff_toInt_le] at h1 h2
  have e0 : (0#32).toInt = 0 := by decide
  have e1 : (31#32).toInt = 31 := by decide
  rw [e0] at h1; rw [e1] at h2
  rw [BitVec.toInt_eq_toNat_cond] at h1 h2
  have := w.isLt
  split at h1 <;> omega

/-- The tables as the memory holds them. -/
def tables (m : (ℓ : Loc nD τ sig) → Buf (Elt F) ℓ) : pre0.Contents (Elt F) := fun j => m (((0 : Dev nD) : Thread nD τ).loc (pre0.ref j))

theorem tables_at (m : (ℓ : Loc nD τ sig) → Buf (Elt F) ℓ) (c : Dev nD) (j : Fin 2) :
    m ((c : Thread nD τ).loc (pre0.ref j)) = tables m j := by
  obtain rfl : c = 0 := Subsingleton.elim _ _
  rfl

/-- Tables whose every word names an expert are admissible: each tile's blocks of weights lie inside the weights. -/
theorem ok_of_le (pf : pre0.Contents (Elt F)) (h : ∀ x : S97.Idx, ((pf 0 x : BitVec 32)).toNat ≤ 31) : ok0 pf := by
  refine ⟨fun i => ⟨fun b => ?_, Or.inl rfl⟩, fun i => ⟨fun b => ?_, Or.inl rfl⟩, fun i => ⟨fun b => ?_, Or.inl rfl⟩⟩
  all_goals
    have hb := h ((Rect.unit (s := S97) (k0_off1 i) S1.size (k0_off1_inb i)).emb (Shape.Idx.first (numel1_S1.symm ▸ Nat.one_pos)))
    match b with
    | ⟨0, _⟩ =>
      exact le_trans (Nat.mul_le_mul_right _ (Nat.succ_le_succ hb)) (Nat.le_of_eq rfl)
    | ⟨1, _⟩ => exact Nat.le_of_eq rfl
    | ⟨2, _⟩ => exact Nat.le_of_eq rfl

/-- The precondition's words. -/
theorem pre_le (m : (ℓ : Loc nD τ sig) → Buf (Elt F) ℓ) (c : Dev nD) (g : Cert.Pre_experts_named.Facts)
    (h : Cert.Pre_experts_named.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) (x : S97.Idx) :
    (m ((c.tc : Thread nD τ).loc main_arg0) x : BitVec 32).toNat ≤ 31 :=
  word_le _ (congrFun h x)

/-- The admissible tables of a memory whose table words name experts. -/
def named (m : (ℓ : Loc nD τ sig) → Buf (Elt F) ℓ) (h : ∀ x : S97.Idx, (tables m 0 x : BitVec 32).toNat ≤ 31) : (pcfg0 (F := F)).Adm :=
  ⟨tables m, ok_of_le _ h⟩

/-- The kernel's frame: the arguments are left as they were and the counters end at zero. -/
theorem frame_run (m : (ℓ : Loc nD τ sig) → Buf (Elt F) ℓ) (ρ : Dev nD → PrngReg) (h : ∀ x : S97.Idx, (tables m 0 x : BitVec 32).toNat ≤ 31) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run (defs (F := F)) _ _).mono
    (fun r hr => ⟨fun c => run_args (named m h) m (tables_at m) r hr.1 c, hr.2⟩) (run_main (named m h) m ρ (tables_at m))

end Cert.KernelIdeal.Experts

end
-- ==== Proof.Payload.lean ====
/- The experts' layer as a formula over the extended reals, and the kernel's computation on one tile read at an index. -/
module

public import proofs.«01_k».proof.Proof.Body
public import Idealize.ShloMosaic.Lib.Pointwise

@[expose] public section

set_option maxRecDepth 16384

noncomputable section

namespace Cert.Experts

open Idealize.ShloMosaic

/-- The rows, the norm's weights, the up and gate matrices, and the down matrices. -/
abbrev Rows := (⟨2, ![24832, 2048]⟩ : Shape).Idx → EReal
abbrev Gain := (⟨2, ![1, 2048]⟩ : Shape).Idx → EReal
abbrev Up := (⟨3, ![32, 2048, 256]⟩ : Shape).Idx → EReal
abbrev Down := (⟨3, ![32, 256, 2048]⟩ : Shape).Idx → EReal

/-- Row `r` after the root-mean-square norm, at column `k`. -/
def normed (X : Rows) (g : Gain) (r : Fin 24832) (k : Fin 2048) : EReal :=
  X (ix2 r k) * Ideal.rsqrt (Ideal.div (∑ j : Fin 2048, X (ix2 r j) * X (ix2 r j)) (Ideal.ofBits .f32 0x45000000#32)
      + Ideal.ofBits .f32 0x358637BD#32) * g (ix2 0 k)

/-- The normed row `r` through expert `e`'s matrix, at hidden unit `f`. -/
def proj (X : Rows) (g : Gain) (W : Up) (e : Fin 32) (r : Fin 24832) (f : Fin 256) : EReal :=
  ∑ k : Fin 2048, normed X g r k * W (ix3 e k f)

/-- Expert `e`'s hidden unit `f` for row `r`: the up projection through its sigmoid gate, times the second projection. -/
def hidden (X : Rows) (g : Gain) (W1 W3 : Up) (e : Fin 32) (r : Fin 24832) (f : Fin 256) : EReal :=
  proj X g W1 e r f * Ideal.div 1 (1 + Ideal.exp (-(proj X g W1 e r f))) * proj X g W3 e r f

/-- Expert `e`'s output for row `r`, at column `d`. -/
def expert (X : Rows) (g : Gain) (W1 W3 : Up) (W2 : Down) (e : Fin 32) (r : Fin 24832) (d : Fin 2048) : EReal :=
  ∑ f : Fin 256, hidden X g W1 W3 e r f * W2 (ix3 e f d)

/-- The tile a row lies in. -/
def tile (r : Fin 24832) : Fin 97 := ⟨r.val / 256, by have := r.isLt; omega⟩

/-- Whether tile `t` is below the count `n` of tiles in use. -/
def Used (n : (⟨1, ![1]⟩ : Shape).Idx → BitVec 32) (t : Fin 97) : Prop := (BitVec.ofNat 32 t.val).toInt < (n (ix1 0)).toInt
instance (n t) : Decidable (Used n t) := inferInstanceAs (Decidable (_ < _))

/-- The expert of tile `t`. -/
def owner (T : (⟨1, ![97]⟩ : Shape).Idx → BitVec 32) (t : Fin 97) : Fin 32 := ⟨(T (ix1 t)).toNat % 32, Nat.mod_lt _ (by decide)⟩

/-- The layer's rows: each row through its tile's expert, zero where the tile is not in use. -/
def routed (T : (⟨1, ![97]⟩ : Shape).Idx → BitVec 32) (n : (⟨1, ![1]⟩ : Shape).Idx → BitVec 32) (X : Rows) (g : Gain) (W1 W3 : Up)
    (W2 : Down) (r : Fin 24832) (d : Fin 2048) : EReal :=
  if Used n (tile r) then expert X g W1 W3 W2 (owner T (tile r)) r d else 0

end Cert.Experts

namespace Cert.KernelIdeal.Experts

open Cert.KernelIdeal Cert.KernelIdeal.Gen Cert.Experts
open Idealize.ShloMosaic

/-- The stored block of a tile in use: if its operands are row `R` of the rows and expert `e`'s matrices, the expert's row. -/
theorem pay_apply (x : FVec Ideal S256x2048 .f32) (g : FVec Ideal S1x2048 .f32) (w1 w3 : FVec Ideal S1x2048x256 .f32)
    (w2 : FVec Ideal S1x256x2048 .f32) (X : Rows) (G : Gain) (W1 W3 : Up) (W2 : Down) (e : Fin 32) (R : Fin 24832)
    (r : Fin 256) (d : Fin 2048) (hx : ∀ k, x (ix2 r k) = X (ix2 R k)) (hg : ∀ k, g (ix2 0 k) = G (ix2 0 k))
    (h1 : ∀ k f, w1 (ix3 0 k f) = W1 (ix3 e k f)) (h3 : ∀ k f, w3 (ix3 0 k f) = W3 (ix3 e k f))
    (h2 : ∀ f, w2 (ix3 0 f d) = W2 (ix3 e f d)) :
    k0_pay2 (F := Ideal) x g w1 w3 w2 (ix2 r d) = expert X G W1 W3 W2 e R d := by
  unfold k0_pay2
  pointwise
  simp only [hx, hg, h1, h3, h2, zero_sub]
  rfl

/-- The stored block of a tile not in use is zero. -/
theorem pay_zero (i : S256x2048.Idx) : k0_pay1 (F := Ideal) i = (0 : EReal) := by
  unfold k0_pay1
  exact Ideal.ofBits_zero_f32

end Cert.KernelIdeal.Experts

end
-- ==== Proof.Value.lean ====
/- The result array of the experts' pallas_call over the extended reals: the layer's rows. -/
module

public import proofs.«01_k».proof.Proof.Tables
public import proofs.«01_k».proof.Proof.Payload
public import Idealize.ShloMosaic.Lib.Pipeline.Value
public import Idealize.ShloMosaic.Lib.Pipeline.ValueKit.Geometry

@[expose] public section

set_option maxRecDepth 16384

noncomputable section

namespace Cert.KernelIdeal.Experts

open Cert.KernelIdeal Cert.KernelIdeal.Gen Cert.Experts
open Idealize.ShloMosaic
open Idealize.ShloMosaic.TcCoe
open Idealize.SL.Sem
open Idealize.ShloMosaic.Pipeline (Dat Cfg Window)

variable (a : (pcfg0 (F := Ideal)).Adm) (m : (ℓ : Loc nD τ sig) → Buf (Elt Ideal) ℓ)

/-- Tile `t`'s coordinate is `t`. -/
theorem coord_val : ∀ t : Fin grid0.N, (grid0.coords t 0).val = t.val := by decide +kernel

/-- `t`'s number as a word, back as a number. -/
theorem word_val (t : Fin grid0.N) : (BitVec.ofNat 32 (grid0.coords t 0).val).toNat = t.val := by
  rw [coord_val, BitVec.toNat_ofNat]
  exact Nat.mod_eq_of_lt (lt_trans t.isLt (by decide))

/-- Row `r` of tile `t`, among all rows. -/
def rowOf (t : Fin grid0.N) (r : Fin 256) : Fin 24832 := ⟨t.val * 256 + r.val, by
  have h1 : t.val < 97 := t.isLt
  have := r.isLt
  omega⟩

theorem blk_rows (c : Dev nD) (t : Fin (cfgA a).N) (r : Fin 256) (k : Fin 2048) :
    iblk a m c (0 : Fin 6) t (ix2 r k) = m ((c : Thread nD τ).loc main_arg2) (ix2 (rowOf t r) k) := by
  unfold iblk
  refine congrArg (m ((c : Thread nD τ).loc main_arg2)) (funext fun b => Fin.ext ?_)
  match b with
  | ⟨0, _⟩ =>
    refine (((cfgA a).win (0 : Fin 6)).rect_emb_val t (ix2 r k) 0).trans ?_
    exact congrArg (· * 256 + r.val) (word_val t)
  | ⟨1, _⟩ =>
    refine (((cfgA a).win (0 : Fin 6)).rect_emb_val t (ix2 r k) 1).trans ?_
    exact Nat.zero_add _

theorem blk_gain (c : Dev nD) (t : Fin (cfgA a).N) (k : Fin 2048) :
    iblk a m c (1 : Fin 6) t (ix2 0 k) = m ((c : Thread nD τ).loc main_arg3) (ix2 0 k) := by
  unfold iblk
  refine congrArg (m ((c : Thread nD τ).loc main_arg3)) (funext fun b => Fin.ext ?_)
  match b with
  | ⟨0, _⟩ => exact (((cfgA a).win (1 : Fin 6)).rect_emb_val t (ix2 0 k) 0).trans rfl
  | ⟨1, _⟩ => exact (((cfgA a).win (1 : Fin 6)).rect_emb_val t (ix2 0 k) 1).trans (Nat.zero_add _)

/-- The word of the first table at tile `t`. -/
theorem word_at (t : Fin grid0.N) :
    (Rect.unit (s := S97) (k0_off1 (grid0.coords t)) S1.size (k0_off1_inb (grid0.coords t))).emb (Shape.Idx.first (numel1_S1.symm ▸ Nat.one_pos))
      = (ix1 (t : Fin 97) : S97.Idx) := by
  funext b; apply Fin.ext
  match b with
  | ⟨0, _⟩ => exact (congrArg (· + 1 * 0) (word_val t)).trans (Nat.add_zero _)

variable (T : (⟨1, ![97]⟩ : Shape).Idx → BitVec 32) (hT : (a.1 0 : S97.Idx → BitVec 32) = T) (hle : ∀ x, (T x).toNat ≤ 31)

include hT hle in
/-- The block of weights that tile `t` is handed starts at its expert. -/
theorem owner_val (t : Fin (cfgA a).N) :
    ((a.1 0) ((Rect.unit (s := S97) (k0_off1 (grid0.coords t)) S1.size (k0_off1_inb (grid0.coords t))).emb
        (Shape.Idx.first (numel1_S1.symm ▸ Nat.one_pos))) : BitVec 32).toNat = (owner T t).val := by
  rw [word_at]
  show ((a.1 0 : S97.Idx → BitVec 32) (ix1 (t : Fin 97))).toNat = (T (ix1 t)).toNat % 32
  rw [hT]
  exact (Nat.mod_eq_of_lt (Nat.lt_succ_of_le (hle _))).symm

include hT hle in
theorem blk_up (c : Dev nD) (t : Fin (cfgA a).N) (k : Fin 2048) (f : Fin 256) :
    iblk a m c (2 : Fin 6) t (ix3 0 k f) = m ((c : Thread nD τ).loc main_arg4) (ix3 (owner T t) k f) := by
  unfold iblk
  refine congrArg (m ((c : Thread nD τ).loc main_arg4)) (funext fun b => Fin.ext ?_)
  match b with
  | ⟨0, _⟩ =>
    refine (((cfgA a).win (2 : Fin 6)).rect_emb_val t (ix3 0 k f) 0).trans ?_
    exact (congrArg (· * 1 + 0) (owner_val a T hT hle t)).trans (Nat.mul_one _)
  | ⟨1, _⟩ => exact (((cfgA a).win (2 : Fin 6)).rect_emb_val t (ix3 0 k f) 1).trans (Nat.zero_add _)
  | ⟨2, _⟩ => exact (((cfgA a).win (2 : Fin 6)).rect_emb_val t (ix3 0 k f) 2).trans (Nat.zero_add _)

include hT hle in
theorem blk_gate (c : Dev nD) (t : Fin (cfgA a).N) (k : Fin 2048) (f : Fin 256) :
    iblk a m c (3 : Fin 6) t (ix3 0 k f) = m ((c : Thread nD τ).loc main_arg5) (ix3 (owner T t) k f) := by
  unfold iblk
  refine congrArg (m ((c : Thread nD τ).loc main_arg5)) (funext fun b => Fin.ext ?_)
  match b with
  | ⟨0, _⟩ =>
    refine (((cfgA a).win (3 : Fin 6)).rect_emb_val t (ix3 0 k f) 0).trans ?_
    exact (congrArg (· * 1 + 0) (owner_val a T hT hle t)).trans (Nat.mul_one _)
  | ⟨1, _⟩ => exact (((cfgA a).win (3 : Fin 6)).rect_emb_val t (ix3 0 k f) 1).trans (Nat.zero_add _)
  | ⟨2, _⟩ => exact (((cfgA a).win (3 : Fin 6)).rect_emb_val t (ix3 0 k f) 2).trans (Nat.zero_add _)

include hT hle in
theorem blk_down (c : Dev nD) (t : Fin (cfgA a).N) (f : Fin 256) (d : Fin 2048) :
    iblk a m c (4 : Fin 6) t (ix3 0 f d) = m ((c : Thread nD τ).loc main_arg6) (ix3 (owner T t) f d) := by
  unfold iblk
  refine congrArg (m ((c : Thread nD τ).loc main_arg6)) (funext fun b => Fin.ext ?_)
  match b with
  | ⟨0, _⟩ =>
    refine (((cfgA a).win (4 : Fin 6)).rect_emb_val t (ix3 0 f d) 0).trans ?_
    exact (congrArg (· * 1 + 0) (owner_val a T hT hle t)).trans (Nat.mul_one _)
  | ⟨1, _⟩ => exact (((cfgA a).win (4 : Fin 6)).rect_emb_val t (ix3 0 f d) 1).trans (Nat.zero_add _)
  | ⟨2, _⟩ => exact (((cfgA a).win (4 : Fin 6)).rect_emb_val t (ix3 0 f d) 2).trans (Nat.zero_add _)

/-- The count's one word. -/
theorem count_eq (n : S1.Idx → BitVec 32) : count (F := Ideal) n = n (ix1 0) := by
  unfold count
  exact congrArg n (funext fun b => Fin.ext (by match b with | ⟨0, _⟩ => rfl))

variable (n : (⟨1, ![1]⟩ : Shape).Idx → BitVec 32) (hn : (a.1 1 : S1.Idx → BitVec 32) = n)

/-- The layer's rows in the memory `m`, as an array. -/
def layer (c : Dev nD) : S24832x2048.Idx → EReal := fun i =>
  routed T n (m ((c : Thread nD τ).loc main_arg2)) (m ((c : Thread nD τ).loc main_arg3)) (m ((c : Thread nD τ).loc main_arg4))
    (m ((c : Thread nD τ).loc main_arg5)) (m ((c : Thread nD τ).loc main_arg6)) (i 0) (i 1)

theorem tile_rowOf (t : Fin grid0.N) (r : Fin 256) : tile (rowOf t r) = (t : Fin 97) := by
  apply Fin.ext
  show (t.val * 256 + r.val) / 256 = t.val
  have := r.isLt
  omega

include hT hle hn in
/-- Tile `t`'s block of the result is its rows of the layer. -/
theorem out_apply (c : Dev nD) (t : Fin (cfgA a).N) (r : Fin 256) (d : Fin 2048) :
    outAt a m c t (ix2 r d) = layer m T n c (ix2 (rowOf t r) d) := by
  show outAt a m c t (ix2 r d) = routed T n _ _ _ _ _ (rowOf t r) d
  unfold outAt tileOut routed
  have hw : count (F := Ideal) (a.1 1) = n (ix1 0) := by
    rw [show (a.1 1 : S1.Idx → BitVec 32) = n from hn]; exact count_eq n
  have hu : k0_cond1 (crd a t) (count (F := Ideal) (a.1 1)) = 1#1 ↔ Used n (tile (rowOf t r)) := by
    rw [cond1_iff, hw, tile_rowOf]
    unfold Used
    rw [show ((crd a t) 0).val = t.val from coord_val t]
  by_cases h : Used n (tile (rowOf t r))
  · rw [if_pos h, if_pos (hu.2 h), tile_rowOf]
    exact pay_apply _ _ _ _ _ _ _ _ _ _ _ _ r d (blk_rows a m c t r) (blk_gain a m c t) (blk_up a m T hT hle c t) (blk_gate a m T hT hle c t)
      (fun f => blk_down a m T hT hle c t f d)
  · rw [if_neg h, if_neg (fun hc => h (hu.1 hc))]
    exact pay_zero _

/-- Every tile's block of the result is written back: the next tile's block is another one. -/
theorem flush_5 (t : Fin (cfgA a).N) : ((cfgA a).win (5 : Fin 6)).flush t = true := by
  unfold Window.flush
  refine (Bool.and_eq_true_iff).2 ⟨rfl, (Bool.or_eq_true_iff).2 ?_⟩
  by_cases h : t.val + 1 = grid0.N
  · exact Or.inl (decide_eq_true h)
  · refine Or.inr (decide_eq_true ⟨lt_of_le_of_ne t.isLt h, fun he => ?_⟩)
    have h0 := congrFun he 0
    have h1 : t.val + 1 = t.val := (word_val ⟨t.val + 1, lt_of_le_of_ne t.isLt h⟩).symm.trans (h0.trans (word_val t))
    omega

include hT hle hn in
/-- The result array at the end is the layer's rows. -/
theorem final_5 (c : Dev nD) : (dats a m 0 c).arrAt (5 : Fin 6) (cfgA a).N = layer m T n c := by
  refine (dats a m 0 c).arrAt_eq_of_emb (5 : Fin 6) _ (fun t _ y => ?_) (fun i => ?_)
  · obtain ⟨r, d, rfl⟩ : ∃ (r : Fin 256) (d : Fin 2048), y = ix2 r d := ⟨y 0, y 1, funext fun b => by
      match b with
      | ⟨0, _⟩ => rfl
      | ⟨1, _⟩ => rfl⟩
    refine Eq.trans ?_ ((out_apply a m T hT hle n hn c t r d).trans (congrArg (layer m T n c) (funext fun b => Fin.ext ?_)))
    · rw [after_5]
      rfl
    · match b with
      | ⟨0, _⟩ =>
        refine Eq.symm ((((cfgA a).win (5 : Fin 6)).rect_emb_val t (ix2 r d) 0).trans ?_)
        exact congrArg (· * 256 + r.val) (word_val t)
      | ⟨1, _⟩ =>
        exact Eq.symm ((((cfgA a).win (5 : Fin 6)).rect_emb_val t (ix2 r d) 1).trans (Nat.zero_add _))
  · have h0 : (i 0).val < 24832 := (i 0).isLt
    have h1 : (i 1).val < 2048 := (i 1).isLt
    have ht : (i 0).val / 256 < grid0.N := by
      show (i 0).val / 256 < 97
      omega
    refine ⟨⟨(i 0).val / 256, ht⟩, flush_5 a _, ?_⟩
    refine (((cfgA a).win (5 : Fin 6)).emb_mem_blk_iff ⟨(i 0).val / 256, ht⟩ i).2 (fun b => ?_)
    match b with
    | ⟨0, _⟩ =>
      have e : ((cfgA a).win (5 : Fin 6)).index ⟨(i 0).val / 256, ht⟩ 0 = (i 0).val / 256 := word_val ⟨(i 0).val / 256, ht⟩
      constructor
      · rw [show ((⟨0, _⟩ : Fin 2)) = 0 from rfl, e]
        show (i 0).val / 256 * 256 ≤ (i 0).val
        omega
      · rw [show ((⟨0, _⟩ : Fin 2)) = 0 from rfl, e]
        show (i 0).val < (i 0).val / 256 * 256 + 256
        omega
    | ⟨1, _⟩ =>
      constructor
      · show 0 * 2048 ≤ (i 1).val
        omega
      · show (i 1).val < 0 * 2048 + 2048
        omega

end Cert.KernelIdeal.Experts

end
-- ==== Proof.Ref.lean ====
/- The reference's result as the layer's formula in its arguments. -/
module

public import proofs.«01_k».proof.Proof.Gen.ReferenceIdeal
public import proofs.«01_k».proof.Proof.Gen.ReferenceIdeal.Run
public import proofs.«01_k».proof.Proof.Gen.ReferenceIdeal.Read
public import proofs.«01_k».proof.Proof.Payload
public import Idealize.ShloMosaic.Lib.TwoAxisContraction
public import Idealize.ShloMosaic.Lib.WordCmp

@[expose] public section

set_option maxRecDepth 16384

noncomputable section

namespace Cert.ReferenceIdeal.Experts

open Cert.ReferenceIdeal Cert.ReferenceIdeal.Gen Cert.ReferenceIdeal.Read Cert.Experts
open Idealize.ShloMosaic

variable (T : (⟨1, ![97]⟩ : Shape).Idx → BitVec 32) (n : (⟨1, ![1]⟩ : Shape).Idx → BitVec 32) (X : Rows) (G : Gain) (W1 W3 : Up) (W2 : Down)

theorem normed_stage (r : Fin 24832) (k : Fin 2048) : val_main_v11 (F := Ideal) X G (ix2 r k) = normed X G r k := by
  rw [val_main_v11_apply, val_main_v9_apply, val_main_v10_apply, val_main_v8_apply, val_main_v7_apply, val_main_v6_apply,
    val_main_v4_apply, val_main_v5_apply, val_main_v3_apply, val_main_v2_apply, val_main_v1_apply]
  have hg : idx_main_v10 (ix2 r k) = ix2 0 k := funext fun b => match b with
    | ⟨0, _⟩ => rfl
    | ⟨1, _⟩ => rfl
  have hs : ∀ j : Fin 2048, val_main_v0 (F := Ideal) X (idx_main_v1 (idx_main_v2 (idx_main_v8 (ix2 r k))) j) = X (ix2 r j) * X (ix2 r j) := fun j => by
    rw [val_main_v0_apply, show idx_main_v1 (idx_main_v2 (idx_main_v8 (ix2 r k))) j = ix2 r j from funext fun b => match b with
      | ⟨0, _⟩ => rfl
      | ⟨1, _⟩ => rfl]
    rfl
  rw [hg, Finset.sum_congr rfl (fun j _ => hs j), val_main_cst_apply, val_main_cst_0_apply, val_main_cst_1_apply,
    show (FloatOps.ofBits .f32 0x00000000#32 : Ideal .f32) = (0 : EReal) from Ideal.ofBits_zero_f32, zero_add]
  rfl

theorem up_stage (r : Fin 24832) (e : Fin 32) (f : Fin 256) : val_main_v23 (F := Ideal) X G W1 (ix3 r e f) = proj X G W1 e r f := by
  rw [val_main_v23_apply]
  refine Finset.sum_congr rfl fun k _ => ?_
  rw [show lidx_main_v23 (ix3 r e f) k = ix2 r k from funext fun b => match b with
      | ⟨0, _⟩ => rfl
      | ⟨1, _⟩ => rfl, normed_stage]
  exact congrArg (normed X G r k * W1 ·) (funext fun b => match b with
    | ⟨0, _⟩ => rfl
    | ⟨1, _⟩ => rfl
    | ⟨2, _⟩ => rfl)

theorem gate_stage (r : Fin 24832) (e : Fin 32) (f : Fin 256) : val_main_v25 (F := Ideal) X G W3 (ix3 r e f) = proj X G W3 e r f := by
  rw [val_main_v25_apply]
  refine Finset.sum_congr rfl fun k _ => ?_
  rw [show lidx_main_v25 (ix3 r e f) k = ix2 r k from funext fun b => match b with
      | ⟨0, _⟩ => rfl
      | ⟨1, _⟩ => rfl, normed_stage]
  exact congrArg (normed X G r k * W3 ·) (funext fun b => match b with
    | ⟨0, _⟩ => rfl
    | ⟨1, _⟩ => rfl
    | ⟨2, _⟩ => rfl)

theorem hidden_stage (r : Fin 24832) (e : Fin 32) (f : Fin 256) : val_main_v26 (F := Ideal) X G W1 W3 (ix3 r e f) = hidden X G W1 W3 e r f := by
  rw [val_main_v26_apply, val_main_v24_apply, val_main_call1_v5_apply, val_main_call1_v4_apply, val_main_call1_v3_apply, val_main_call1_v2_apply,
    val_main_call1_v1_apply, val_main_call1_v0_apply, val_main_call1_cst_apply, val_main_call1_cst_0_apply, up_stage, gate_stage,
    show (FloatOps.ofBits .f32 0x3F800000#32 : Ideal .f32) = (1 : EReal) from Ideal.ofBits_one_f32]
  rfl

/-- A flag turned into a number is one or zero. -/
theorem flag (p : Prop) [Decidable p] : (FloatOps.uitofp .f32 (BitVec.ofBool (decide p)) : Ideal .f32) = if p then (1 : EReal) else 0 := by
  show (((BitVec.ofBool (decide p)).toNat : ℝ) : EReal) = _
  by_cases h : p <;> simp [h]

theorem count_stage (i : S_.Idx) : val_main_v13 (F := Ideal) n i = n (ix1 0) := by
  unfold val_main_v13
  exact congrArg n (funext fun b => Fin.ext (by
    match b with
    | ⟨0, _⟩ => exact Nat.lt_one_iff.1 (Fin.isLt _)))

theorem used_stage (t : Fin 97) : val_main_v16 (F := Ideal) n (ix1 t) = if Used n t then (1 : EReal) else 0 := by
  rw [val_main_v16_apply, val_main_v15_apply, val_main_v12_apply, val_main_v14_apply, count_stage]
  exact flag (Used n t)

theorem owned_stage (t : Fin 97) (e : Fin 32) : val_main_v17 (F := Ideal) T (ix2 t e) = if T (ix1 t) = BitVec.ofNat 32 e.val then (1 : EReal) else 0 := by
  rw [val_main_v17_apply, val_main_call0_v4_apply, val_main_call0_v3_apply, val_main_call0_v2_apply, val_main_call0_v1_apply, val_main_call0_v0_apply,
    WordCmp.cmpi_eq_eq, flag]
  have h : idx_main_call0_v0 (idx_main_call0_v2 (ix2 t e)) = ix1 t := funext fun b => match b with
    | ⟨0, _⟩ => rfl
  rw [h]
  rfl

/-- The gate of row `r` and expert `e`: one if its tile is in use and belongs to `e`, zero otherwise. -/
theorem gates_stage (r : Fin 24832) (e : Fin 32) (f : Fin 256) : val_main_v28 (F := Ideal) T n (ix3 r e f)
    = (if T (ix1 (tile r)) = BitVec.ofNat 32 e.val then (1 : EReal) else 0) * (if Used n (tile r) then (1 : EReal) else 0) := by
  rw [val_main_v28_apply, val_main_v27_apply, val_main_v22_apply, val_main_v21_apply, val_main_v20_apply, val_main_v19_apply, val_main_v18_apply]
  have h : idx_main_v21 (idx_main_v22 (idx_main_v27 (idx_main_v28 (ix3 r e f)))) = ix2 (tile r) e := funext fun b => Fin.ext (by
    have hr := r.isLt
    have he := e.isLt
    match b with
    | ⟨0, _⟩ =>
      show (r.val * 32 + e.val) / 8192 = r.val / 256
      omega
    | ⟨1, _⟩ =>
      show (r.val * 32 + e.val) % 32 = e.val
      omega)
  rw [h, owned_stage, show idx_main_v18 (idx_main_v19 (ix2 (tile r) e)) = ix1 (tile r) from funext fun b => match b with
    | ⟨0, _⟩ => rfl, used_stage]
  rfl

theorem down_stage (r : Fin 24832) (d : Fin 2048) : val_main_v30 (F := Ideal) T n X G W1 W3 W2 (ix2 r d)
    = ∑ e : Fin 32, ∑ f : Fin 256, val_main_v29 (F := Ideal) T n X G W1 W3 (ix3 r e f) * W2 (ix3 e f d) := by
  unfold val_main_v30
  generalize val_main_v29 (F := Ideal) T n X G W1 W3 = y
  show Host.dotGeneral (F := Ideal) dot_S24832x32x256_S32x256x2048_S24832x2048_12_01_0_2_n_n none y W2 (ix2 r d) = _
  simp only [Host.dotGeneral]
  rw [Ideal.dotGeneral_apply, ValueIdx.sum_contr2 _ 32 256 rfl rfl rfl]
  refine Finset.sum_congr rfl fun e _ => Finset.sum_congr rfl fun f _ => ?_
  refine congrArg₂ (· * ·) (congrArg y (funext fun b => Fin.ext ?_)) (congrArg W2 (funext fun b => Fin.ext ?_))
  · match b with
    | ⟨0, _⟩ => rfl
    | ⟨1, _⟩ => rfl
    | ⟨2, _⟩ => rfl
  · match b with
    | ⟨0, _⟩ => rfl
    | ⟨1, _⟩ => rfl
    | ⟨2, _⟩ => rfl

/-- The reference's result is the layer's rows. -/
theorem result (hle : ∀ x, (T x).toNat ≤ 31) (r : Fin 24832) (d : Fin 2048) :
    val_main_v30 (F := Ideal) T n X G W1 W3 W2 (ix2 r d) = routed T n X G W1 W3 W2 r d := by
  rw [down_stage]
  have hv : ∀ e f, val_main_v29 (F := Ideal) T n X G W1 W3 (ix3 r e f) = hidden X G W1 W3 e r f
      * ((if T (ix1 (tile r)) = BitVec.ofNat 32 e.val then (1 : EReal) else 0) * (if Used n (tile r) then (1 : EReal) else 0)) := fun e f => by
    rw [val_main_v29_apply, hidden_stage, gates_stage]
    rfl
  simp only [hv]
  unfold routed
  by_cases hu : Used n (tile r)
  · have hlt : (T (ix1 (tile r))).toNat < 32 := Nat.lt_succ_of_le (hle _)
    have ho : (owner T (tile r)).val = (T (ix1 (tile r))).toNat := Nat.mod_eq_of_lt hlt
    simp only [if_pos hu, mul_one]
    rw [Finset.sum_eq_single (owner T (tile r))]
    · unfold expert
      refine Finset.sum_congr rfl fun f _ => ?_
      rw [if_pos (by rw [ho, BitVec.ofNat_toNat, BitVec.setWidth_eq]), mul_one]
    · intro e _ hne
      refine Finset.sum_eq_zero fun f _ => ?_
      rw [if_neg (fun h => hne (Fin.ext ?_)), mul_zero, zero_mul]
      rw [ho, h, BitVec.toNat_ofNat]
      exact (Nat.mod_eq_of_lt (lt_trans e.isLt (by decide))).symm
    · exact fun h => absurd (Finset.mem_univ _) h
  · simp only [if_neg hu]
    refine Finset.sum_eq_zero fun e _ => Finset.sum_eq_zero fun f _ => ?_
    rw [mul_zero, mul_zero, zero_mul]

end Cert.ReferenceIdeal.Experts

end
-- ==== Proof.Inproj.Body.lean ====
/- One step of the projections' kernel. -/
module

public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Frame
public import Idealize.ShloMosaic.Lib.Pipeline.TableIdle
public import Idealize.ShloMosaic.Lib.VecWindow
public import Idealize.ShloMosaic.Lib.Writes
public import Idealize.ShloMosaic.Lib.Exec

@[expose] public section

set_option maxRecDepth 16384
set_option Elab.async false

noncomputable section

namespace Cert.InprojIdeal.Projections

open Cert.InprojIdeal Cert.InprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The normalised rows. -/
def rowsOf (x : S1024x2048.Idx → Elt F .f32) (g : S1x2048.Idx → Elt F .f32) : S1024x2048.Idx → Elt F .bf16 := k0_pay10 x g

/-- A block of the product with the first weights, and with the gates' weights. -/
def lowProd (h : S1024x2048.Idx → Elt F .bf16) (w : S512x2048.Idx → Elt F .f32) : S1024x512.Idx → Elt F .f32 := k0_pay4 h w
def highProd (h : S1024x2048.Idx → Elt F .bf16) (w : S512x2048.Idx → Elt F .f32) : S1024x512.Idx → Elt F .f32 := k0_pay5 h w

/-- The number of lanes of a head, as the kernel computes it. -/
abbrev lanes : BitVec 32 := Scalar.select (Scalar.cmpi .eq 64#32 0#32) 1#32 64#32
abbrev laneIx : IVec S1x128 32 := iota .tc S1x128 32 [1] iota_S1x128_d1_w32

/-- The small projections' block, and the indexer's keys kept from it. -/
def smallOut (x : S1024x2048.Idx → Elt F .f32) (g : S1x2048.Idx → Elt F .f32) (u : S128x2048.Idx → Elt F .f32)
    (cs sn : S1024x128.Idx → Elt F .f32) : S1024x128.Idx → Elt F .f32 :=
  k0_pay2 (k0_pay11 x g u) laneIx (k0_pay12 cs) (k0_pay13 sn) lanes k0_pay14 k0_pay15 k0_pay16
def keyOut (x : S1024x2048.Idx → Elt F .f32) (g : S1x2048.Idx → Elt F .f32) (u : S128x2048.Idx → Elt F .f32)
    (cs sn : S1024x128.Idx → Elt F .f32) : S1024x128.Idx → Elt F .bf16 :=
  k0_pay3 (k0_pay11 x g u) laneIx (k0_pay12 cs) (k0_pay13 sn) lanes k0_pay14 k0_pay15 k0_pay16

/-- A block with its heads normalised, rotated and scaled where the columns' table says so. -/
def normOut (y : S1024x512.Idx → Elt F .f32) (q : S8x512.Idx → Elt F .f32) (b : S512x512.Idx → Elt F .bf16)
    (cs sn : S1024x128.Idx → Elt F .f32) : S1024x512.Idx → Elt F .f32 :=
  k0_pay6 (k0_pay18 q) (k0_pay19 y q b b) (k0_pay20 q) (k0_pay21 cs) (k0_pay22 sn) (k0_pay23 laneIx 64#32 0#32)
    (k0_pay24 (k0_pay19 y q b b) (k0_pay21 cs) (k0_pay22 sn) laneIx 64#32 0#32)
    (k0_pay25 (k0_pay19 y q b b) (k0_pay21 cs) (k0_pay22 sn) laneIx 64#32 0#32)
    (k0_pay26 (k0_pay19 y q b b) (k0_pay21 cs) (k0_pay22 sn) laneIx 64#32 0#32)
    (k0_pay27 (k0_pay19 y q b b)) (k0_pay28 (k0_pay19 y q b b)) 32#32

/-- A block rotated, and a block kept. -/
def ropeOut (y : S1024x512.Idx → Elt F .f32) (cs sn : S1024x128.Idx → Elt F .f32) : S1024x512.Idx → Elt F .f32 :=
  k0_pay7 (k0_pay29 y) (k0_pay30 cs) (k0_pay31 sn) k0_pay32 (k0_pay33 y cs sn) (k0_pay34 y cs sn)
def keptOut (y : S1024x512.Idx → Elt F .f32) : S1024x512.Idx → Elt F .bf16 := k0_pay8 y
theorem ropeOut_of (a y : S1024x512.Idx → Elt F .f32) (cs sn : S1024x128.Idx → Elt F .f32) (h : a = y) :
    k0_pay7 (k0_pay29 a) (k0_pay30 cs) (k0_pay31 sn) k0_pay32 (k0_pay33 a cs sn) (k0_pay34 a cs sn) = ropeOut y cs sn := by
  subst h; rfl

theorem normOut_of (a y : S1024x512.Idx → Elt F .f32) (q : S8x512.Idx → Elt F .f32) (b : S512x512.Idx → Elt F .bf16)
    (cs sn : S1024x128.Idx → Elt F .f32) (h : a = y) :
    k0_pay6 (k0_pay18 q) (k0_pay19 a q b b) (k0_pay20 q) (k0_pay21 cs) (k0_pay22 sn) (k0_pay23 laneIx 64#32 0#32)
    (k0_pay24 (k0_pay19 a q b b) (k0_pay21 cs) (k0_pay22 sn) laneIx 64#32 0#32)
    (k0_pay25 (k0_pay19 a q b b) (k0_pay21 cs) (k0_pay22 sn) laneIx 64#32 0#32)
    (k0_pay26 (k0_pay19 a q b b) (k0_pay21 cs) (k0_pay22 sn) laneIx 64#32 0#32)
    (k0_pay27 (k0_pay19 a q b b)) (k0_pay28 (k0_pay19 a q b b)) 32#32 = normOut y q b cs sn := by
  subst h; rfl

set_option maxHeartbeats 4000000 in
/-- The first step of a row of blocks: the normalised rows, the small projections, the first block of the product. -/
theorem step_first (c : Dev nD) (i : grid0.Coords) (arg2 : Memref sig .tc .vmem S1024x2048 .f32) (harg2 : arg2.IsWhole)
    (arg3 : Memref sig .tc .vmem S1x2048 .f32) (harg3 : arg3.IsWhole)
    (arg4 : Memref sig .tc .vmem S512x2048 .f32) (harg4 : arg4.IsWhole)
    (arg5 : Memref sig .tc .vmem S512x2048 .f32) (harg5 : arg5.IsWhole)
    (arg6 : Memref sig .tc .vmem S128x2048 .f32) (harg6 : arg6.IsWhole)
    (arg7 : Memref sig .tc .vmem S8x512 .f32) (harg7 : arg7.IsWhole)
    (arg8 : Memref sig .tc .vmem S1024x128 .f32) (harg8 : arg8.IsWhole)
    (arg9 : Memref sig .tc .vmem S1024x128 .f32) (harg9 : arg9.IsWhole)
    (arg10 : Memref sig .tc .vmem S512x512 .bf16) (harg10 : arg10.IsWhole)
    (arg11 : Memref sig .tc .vmem S1024x512 .f32) (harg11 : arg11.IsWhole)
    (arg12 : Memref sig .tc .vmem S1024x128 .f32) (harg12 : arg12.IsWhole)
    (arg13 : Memref sig .tc .vmem S1024x512 .bf16) (harg13 : arg13.IsWhole)
    (arg14 : Memref sig .tc .vmem S1024x128 .bf16) (harg14 : arg14.IsWhole)
    (arg15 : Memref sig .tc .vmem S1024x2048 .bf16) (harg15 : arg15.IsWhole)
    (h1 : k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (x : S1024x2048.Idx → Elt F .f32) (g : S1x2048.Idx → Elt F .f32) (w : S512x2048.Idx → Elt F .f32) (u : S128x2048.Idx → Elt F .f32) (cs : S1024x128.Idx → Elt F .f32) (sn : S1024x128.Idx → Elt F .f32) (K : PUnit → sProp 𝕄) :
    iprop((arg2.view.loc (c : Thread nD τ) ↦[arg2.view.set]{fullShare} arg2.view.rep x)
          ∗ (arg3.view.loc (c : Thread nD τ) ↦[arg3.view.set]{fullShare} arg3.view.rep g)
          ∗ (arg4.view.loc (c : Thread nD τ) ↦[arg4.view.set]{fullShare} arg4.view.rep w)
          ∗ (arg6.view.loc (c : Thread nD τ) ↦[arg6.view.set]{fullShare} arg6.view.rep u)
          ∗ (arg8.view.loc (c : Thread nD τ) ↦[arg8.view.set]{fullShare} arg8.view.rep cs)
          ∗ (arg9.view.loc (c : Thread nD τ) ↦[arg9.view.set]{fullShare} arg9.view.rep sn)
          ∗ (∃ d, owns (c : Thread nD τ) arg11 fullShare d)
          ∗ (∃ d, owns (c : Thread nD τ) arg12 fullShare d)
          ∗ (∃ d, owns (c : Thread nD τ) arg14 fullShare d)
          ∗ (∃ d, owns (c : Thread nD τ) arg15 fullShare d)
          ∗ (iprop((arg2.view.loc (c : Thread nD τ) ↦[arg2.view.set]{fullShare} arg2.view.rep x)
              ∗ (arg3.view.loc (c : Thread nD τ) ↦[arg3.view.set]{fullShare} arg3.view.rep g)
              ∗ (arg4.view.loc (c : Thread nD τ) ↦[arg4.view.set]{fullShare} arg4.view.rep w)
              ∗ (arg6.view.loc (c : Thread nD τ) ↦[arg6.view.set]{fullShare} arg6.view.rep u)
              ∗ (arg8.view.loc (c : Thread nD τ) ↦[arg8.view.set]{fullShare} arg8.view.rep cs)
              ∗ (arg9.view.loc (c : Thread nD τ) ↦[arg9.view.set]{fullShare} arg9.view.rep sn)
              ∗ owns (c : Thread nD τ) arg11 fullShare (lowProd (rowsOf x g) w)
              ∗ owns (c : Thread nD τ) arg12 fullShare (smallOut x g u cs sn)
              ∗ owns (c : Thread nD τ) arg14 fullShare (keyOut x g u cs sn)
              ∗ owns (c : Thread nD τ) arg15 fullShare (rowsOf x g)) -∗ K ⟨⟩))
      ⊢ wp frame (wpE (defs₀ (F := F)) Variants.none c none) Set.univ
          (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  rw [cc0_inproj_eq_skeleton]; unfold cc0_inproj_skel
  simp only [k0_part1_eq_skeleton]; unfold k0_part1_skel
  iintro ⟨H2, H3, H4, H6, H8, H9, ⟨%d11, %f11, -, H11⟩, ⟨%d12, %f12, -, H12⟩, ⟨%d14, %f14, -, H14⟩, ⟨%d15, %f15, -, H15⟩, Hk⟩
  sl_exec! (disch := first | (guard_target = k0_cond1 _ = _; exact h1) | (guard_target = k0_cond2 _ = _; exact h2) | (guard_target = ¬(k0_cond3 _ = _); exact h3) | (guard_target = ¬(k0_cond4 _ = _); exact h4) | (guard_target = ¬(k0_cond5 _ = _); exact h5) | (guard_target = ¬(k0_cond6 _ = _); exact h6))
  sl_step
  iapply Hk
  isplitl [H2]; · iexact H2
  isplitl [H3]; · iexact H3
  isplitl [H4]; · iexact H4
  isplitl [H6]; · iexact H6
  isplitl [H8]; · iexact H8
  isplitl [H9]; · iexact H9
  isplitl [H11]
  · iexists _
    isplitr; swap
    · iexact H11
    · ipureintro
      have e2 := View.readAt_rep_full (Val := Elt F) arg2.view x inb_S1024x2048_S1024x2048_0_0
      have e3 := View.readAt_rep_full (Val := Elt F) arg3.view g inb_S1x2048_S1x2048_0_0
      have e4 := View.readAt_rep_full (Val := Elt F) arg4.view w inb_S512x2048_S512x2048_0_0
      have e6 := View.readAt_rep_full (Val := Elt F) arg6.view u inb_S128x2048_S128x2048_0_0
      have e8 := View.readAt_rep_full (Val := Elt F) arg8.view cs inb_S1024x128_S1024x128_0_0
      have e9 := View.readAt_rep_full (Val := Elt F) arg9.view sn inb_S1024x128_S1024x128_0_0
      unfold step_first.sl.H11_1
      rw [View.read_writes_full]
      try unfold step_first.sl.v20_1
      try unfold step_first.sl.v20
      try unfold step_first.sl.r_1
      try unfold step_first.sl.H11_2
      try rw [View.readCov_full]
      unfold step_first.sl.H15_1
      try unfold step_first.sl.H11_1
      try rw [View.readCov_full]
      try rw [e2]
      try rw [e3]
      try rw [e4]
      try rw [e6]
      try rw [e8]
      try rw [e9]
      rfl
  isplitl [H12]
  · iexists _
    isplitr; swap
    · iexact H12
    · ipureintro
      have e2 := View.readAt_rep_full (Val := Elt F) arg2.view x inb_S1024x2048_S1024x2048_0_0
      have e3 := View.readAt_rep_full (Val := Elt F) arg3.view g inb_S1x2048_S1x2048_0_0
      have e4 := View.readAt_rep_full (Val := Elt F) arg4.view w inb_S512x2048_S512x2048_0_0
      have e6 := View.readAt_rep_full (Val := Elt F) arg6.view u inb_S128x2048_S128x2048_0_0
      have e8 := View.readAt_rep_full (Val := Elt F) arg8.view cs inb_S1024x128_S1024x128_0_0
      have e9 := View.readAt_rep_full (Val := Elt F) arg9.view sn inb_S1024x128_S1024x128_0_0
      unfold step_first.sl.H12_1
      rw [View.read_writes_full]
      try unfold step_first.sl.v20_1
      try unfold step_first.sl.v20
      try unfold step_first.sl.r_1
      try unfold step_first.sl.H11_2
      try rw [View.readCov_full]
      try unfold step_first.sl.H11_1
      try rw [View.readCov_full]
      try rw [e2]
      try rw [e3]
      try rw [e4]
      try rw [e6]
      try rw [e8]
      try rw [e9]
      rfl
  isplitl [H14]
  · iexists _
    isplitr; swap
    · iexact H14
    · ipureintro
      have e2 := View.readAt_rep_full (Val := Elt F) arg2.view x inb_S1024x2048_S1024x2048_0_0
      have e3 := View.readAt_rep_full (Val := Elt F) arg3.view g inb_S1x2048_S1x2048_0_0
      have e4 := View.readAt_rep_full (Val := Elt F) arg4.view w inb_S512x2048_S512x2048_0_0
      have e6 := View.readAt_rep_full (Val := Elt F) arg6.view u inb_S128x2048_S128x2048_0_0
      have e8 := View.readAt_rep_full (Val := Elt F) arg8.view cs inb_S1024x128_S1024x128_0_0
      have e9 := View.readAt_rep_full (Val := Elt F) arg9.view sn inb_S1024x128_S1024x128_0_0
      unfold step_first.sl.H14_1
      rw [View.read_writes_full]
      try unfold step_first.sl.v20_1
      try unfold step_first.sl.v20
      try unfold step_first.sl.r_1
      try unfold step_first.sl.H11_2
      try rw [View.readCov_full]
      try unfold step_first.sl.H11_1
      try rw [View.readCov_full]
      try rw [e2]
      try rw [e3]
      try rw [e4]
      try rw [e6]
      try rw [e8]
      try rw [e9]
      rfl
  iexists _
  isplitr; swap
  · iexact H15
  · ipureintro
    have e2 := View.readAt_rep_full (Val := Elt F) arg2.view x inb_S1024x2048_S1024x2048_0_0
    have e3 := View.readAt_rep_full (Val := Elt F) arg3.view g inb_S1x2048_S1x2048_0_0
    have e4 := View.readAt_rep_full (Val := Elt F) arg4.view w inb_S512x2048_S512x2048_0_0
    have e6 := View.readAt_rep_full (Val := Elt F) arg6.view u inb_S128x2048_S128x2048_0_0
    have e8 := View.readAt_rep_full (Val := Elt F) arg8.view cs inb_S1024x128_S1024x128_0_0
    have e9 := View.readAt_rep_full (Val := Elt F) arg9.view sn inb_S1024x128_S1024x128_0_0
    unfold step_first.sl.H15_1
    rw [View.read_writes_full]
    try unfold step_first.sl.v20_1
    try unfold step_first.sl.v20
    try unfold step_first.sl.r_1
    try unfold step_first.sl.H11_2
    try rw [View.readCov_full]
    try unfold step_first.sl.H11_1
    try rw [View.readCov_full]
    try rw [e2]
    try rw [e3]
    try rw [e4]
    try rw [e6]
    try rw [e8]
    try rw [e9]
    rfl

set_option maxHeartbeats 4000000 in
/-- A step that leaves a block of the plain product. -/
theorem step_low (c : Dev nD) (i : grid0.Coords) (arg2 : Memref sig .tc .vmem S1024x2048 .f32) (harg2 : arg2.IsWhole)
    (arg3 : Memref sig .tc .vmem S1x2048 .f32) (harg3 : arg3.IsWhole)
    (arg4 : Memref sig .tc .vmem S512x2048 .f32) (harg4 : arg4.IsWhole)
    (arg5 : Memref sig .tc .vmem S512x2048 .f32) (harg5 : arg5.IsWhole)
    (arg6 : Memref sig .tc .vmem S128x2048 .f32) (harg6 : arg6.IsWhole)
    (arg7 : Memref sig .tc .vmem S8x512 .f32) (harg7 : arg7.IsWhole)
    (arg8 : Memref sig .tc .vmem S1024x128 .f32) (harg8 : arg8.IsWhole)
    (arg9 : Memref sig .tc .vmem S1024x128 .f32) (harg9 : arg9.IsWhole)
    (arg10 : Memref sig .tc .vmem S512x512 .bf16) (harg10 : arg10.IsWhole)
    (arg11 : Memref sig .tc .vmem S1024x512 .f32) (harg11 : arg11.IsWhole)
    (arg12 : Memref sig .tc .vmem S1024x128 .f32) (harg12 : arg12.IsWhole)
    (arg13 : Memref sig .tc .vmem S1024x512 .bf16) (harg13 : arg13.IsWhole)
    (arg14 : Memref sig .tc .vmem S1024x128 .bf16) (harg14 : arg14.IsWhole)
    (arg15 : Memref sig .tc .vmem S1024x2048 .bf16) (harg15 : arg15.IsWhole)
    (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (h : S1024x2048.Idx → Elt F .bf16) (w : S512x2048.Idx → Elt F .f32) (K : PUnit → sProp 𝕄) :
    iprop((arg15.view.loc (c : Thread nD τ) ↦[arg15.view.set]{fullShare} arg15.view.rep h)
          ∗ (arg4.view.loc (c : Thread nD τ) ↦[arg4.view.set]{fullShare} arg4.view.rep w)
          ∗ (∃ d, owns (c : Thread nD τ) arg11 fullShare d)
          ∗ (iprop((arg15.view.loc (c : Thread nD τ) ↦[arg15.view.set]{fullShare} arg15.view.rep h)
              ∗ (arg4.view.loc (c : Thread nD τ) ↦[arg4.view.set]{fullShare} arg4.view.rep w)
              ∗ owns (c : Thread nD τ) arg11 fullShare (lowProd h w)) -∗ K ⟨⟩))
      ⊢ wp frame (wpE (defs₀ (F := F)) Variants.none c none) Set.univ
          (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  rw [cc0_inproj_eq_skeleton]; unfold cc0_inproj_skel
  iintro ⟨H15, H4, ⟨%d11, %f11, -, H11⟩, Hk⟩
  sl_exec! (disch := first | (guard_target = ¬(k0_cond1 _ = _); exact h1) | (guard_target = k0_cond2 _ = _; exact h2) | (guard_target = ¬(k0_cond3 _ = _); exact h3) | (guard_target = ¬(k0_cond4 _ = _); exact h4) | (guard_target = ¬(k0_cond5 _ = _); exact h5) | (guard_target = ¬(k0_cond6 _ = _); exact h6))
  sl_step
  iapply Hk
  isplitl [H15]; · iexact H15
  isplitl [H4]; · iexact H4
  iexists _
  isplitr; swap
  · iexact H11
  · ipureintro
    have e15 := View.readAt_rep_full (Val := Elt F) arg15.view h inb_S1024x2048_S1024x2048_0_0
    have e4 := View.readAt_rep_full (Val := Elt F) arg4.view w inb_S512x2048_S512x2048_0_0
    unfold step_low.sl.H11_1
    rw [View.read_writes_full]
    try unfold step_low.sl.v20_1
    try unfold step_low.sl.v20
    try unfold step_low.sl.r_1
    try unfold step_low.sl.H11_2
    try rw [View.readCov_full]
    try unfold step_low.sl.H11_1
    try rw [View.readCov_full]
    try rw [e15]
    try rw [e4]
    rfl

set_option maxHeartbeats 4000000 in
/-- A step that normalises and rotates its block. -/
theorem step_norm (c : Dev nD) (i : grid0.Coords) (arg2 : Memref sig .tc .vmem S1024x2048 .f32) (harg2 : arg2.IsWhole)
    (arg3 : Memref sig .tc .vmem S1x2048 .f32) (harg3 : arg3.IsWhole)
    (arg4 : Memref sig .tc .vmem S512x2048 .f32) (harg4 : arg4.IsWhole)
    (arg5 : Memref sig .tc .vmem S512x2048 .f32) (harg5 : arg5.IsWhole)
    (arg6 : Memref sig .tc .vmem S128x2048 .f32) (harg6 : arg6.IsWhole)
    (arg7 : Memref sig .tc .vmem S8x512 .f32) (harg7 : arg7.IsWhole)
    (arg8 : Memref sig .tc .vmem S1024x128 .f32) (harg8 : arg8.IsWhole)
    (arg9 : Memref sig .tc .vmem S1024x128 .f32) (harg9 : arg9.IsWhole)
    (arg10 : Memref sig .tc .vmem S512x512 .bf16) (harg10 : arg10.IsWhole)
    (arg11 : Memref sig .tc .vmem S1024x512 .f32) (harg11 : arg11.IsWhole)
    (arg12 : Memref sig .tc .vmem S1024x128 .f32) (harg12 : arg12.IsWhole)
    (arg13 : Memref sig .tc .vmem S1024x512 .bf16) (harg13 : arg13.IsWhole)
    (arg14 : Memref sig .tc .vmem S1024x128 .bf16) (harg14 : arg14.IsWhole)
    (arg15 : Memref sig .tc .vmem S1024x2048 .bf16) (harg15 : arg15.IsWhole)
    (h1 : ¬ k0_cond1 i = 1#1) (h2 : k0_cond2 i = 1#1) (h3 : ¬ k0_cond3 i = 1#1) (h4 : k0_cond4 i = 1#1) (h5 : ¬ k0_cond5 i = 1#1) (h6 : ¬ k0_cond6 i = 1#1)
    (h : S1024x2048.Idx → Elt F .bf16) (w : S512x2048.Idx → Elt F .f32) (q : S8x512.Idx → Elt F .f32) (cs : S1024x128.Idx → Elt F .f32) (sn : S1024x128.Idx → Elt F .f32) (b : S512x512.Idx → Elt F .bf16) (K : PUnit → sProp 𝕄) :
    iprop((arg15.view.loc (c : Thread nD τ) ↦[arg15.view.set]{fullShare} arg15.view.rep h)
          ∗ (arg4.view.loc (c : Thread nD τ) ↦[arg4.view.set]{fullShare} arg4.view.rep w)
          ∗ (arg7.view.loc (c : Thread nD τ) ↦[arg7.view.set]{fullShare} arg7.view.rep q)
          ∗ (arg8.view.loc (c : Thread nD τ) ↦[arg8.view.set]{fullShare} arg8.view.rep cs)
          ∗ (arg9.view.loc (c : Thread nD τ) ↦[arg9.view.set]{fullShare} arg9.view.rep sn)
          ∗ (arg10.view.loc (c : Thread nD τ) ↦[arg10.view.set]{fullShare} arg10.view.rep b)
          ∗ (∃ d, owns (c : Thread nD τ) arg11 fullShare d)
          ∗ (iprop((arg15.view.loc (c : Thread nD τ) ↦[arg15.view.set]{fullShare} arg15.view.rep h)
              ∗ (arg4.view.loc (c : Thread nD τ) ↦[arg4.view.set]{fullShare} arg4.view.rep w)
              ∗ (arg7.view.loc (c : Thread nD τ) ↦[arg7.view.set]{fullShare} arg7.view.rep q)
              ∗ (arg8.view.loc (c : Thread nD τ) ↦[arg8.view.set]{fullShare} arg8.view.rep cs)
              ∗ (arg9.view.loc (c : Thread nD τ) ↦[arg9.view.set]{fullShare} arg9.view.rep sn)
              ∗ (arg10.view.loc (c : Thread nD τ) ↦[arg10.view.set]{fullShare} arg10.view.rep b)
              ∗ owns (c : Thread nD τ) arg11 fullShare (normOut (lowProd h w) q b cs sn)) -∗ K ⟨⟩))
      ⊢ wp frame (wpE (defs₀ (F := F)) Variants.none c none) Set.univ
          (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  rw [cc0_inproj_eq_skeleton]; unfold cc0_inproj_skel
  simp only [k0_part2_eq_skeleton]; unfold k0_part2_skel
  simp only [k0_part3_eq_skeleton]; unfold k0_part3_skel
  iintro ⟨H15, H4, H7, H8, H9, H10, ⟨%d11, %f11, -, H11⟩, Hk⟩
  sl_exec! (disch := first | (guard_target = ¬(k0_cond1 _ = _); exact h1) | (guard_target = k0_cond2 _ = _; exact h2) | (guard_target = ¬(k0_cond3 _ = _); exact h3) | (guard_target = k0_cond4 _ = _; exact h4) | (guard_target = ¬(k0_cond5 _ = _); exact h5) | (guard_target = ¬(k0_cond6 _ = _); exact h6))
  sl_step
  iapply Hk
  isplitl [H15]; · iexact H15
  isplitl [H4]; · iexact H4
  isplitl [H7]; · iexact H7
  isplitl [H8]; · iexact H8
  isplitl [H9]; · iexact H9
  isplitl [H10]; · iexact H10
  iexists _
  isplitr; swap
  · iexact H11
  · ipureintro
    have e15 := View.readAt_rep_full (Val := Elt F) arg15.view h inb_S1024x2048_S1024x2048_0_0
    have e4 := View.readAt_rep_full (Val := Elt F) arg4.view w inb_S512x2048_S512x2048_0_0
    have e7 := View.readAt_rep_full (Val := Elt F) arg7.view q inb_S8x512_S8x512_0_0
    have e8 := View.readAt_rep_full (Val := Elt F) arg8.view cs inb_S1024x128_S1024x128_0_0
    have e9 := View.readAt_rep_full (Val := Elt F) arg9.view sn inb_S1024x128_S1024x128_0_0
    have e10 := View.readAt_rep_full (Val := Elt F) arg10.view b inb_S512x512_S512x512_0_0
    unfold step_norm.sl.H11_2
    rw [View.read_writes_full]
    rw [e7, e8, e9, e10]
    refine normOut_of _ _ q b cs sn ?_
    unfold step_norm.sl.v20 step_norm.sl.H11_1
    rw [View.readCov_full, e15, e4]
    rfl

set_option maxHeartbeats 4000000 in
/-- The step of the keys and values, whose block is kept a second time. -/
theorem step_keys (c : Dev nD) (i : grid0.Coords) (arg2 : Memref sig .tc .vmem S1024x2048 .f32) (harg2 : arg2.IsWhole)
    (arg3 : Memref sig .tc .vmem S1x2048 .f32) (harg3 : arg3.IsWhole)
    (arg4 : Memref sig .tc .vmem S512x2048 .f32) (harg4 : arg4.IsWhole)
    (arg5 : Memref sig .tc .vmem S512x2048 .f32) (harg5 : arg5.IsWhole)
    (arg6 : Memref sig .tc .vmem S128x2048 .f32) (harg6 : arg6.IsWhole)
    (arg7 : Memref sig .tc .vmem S8x512 .f32) (harg7 : arg7.IsWhole)
    (arg8 : Memref sig .tc .vmem S1024x128 .f32) (harg8 : arg8.IsWhole)
    (arg9 : Memref sig .tc .vmem S1024x128 .f32) (harg9 : arg9.IsWhole)
    (arg10 : Memref sig .tc .vmem S512x512 .bf16) (harg10 : arg10.IsWhole)
    (arg11 : Memref sig .tc .vmem S1024x512 .f32) (harg11 : arg11.IsWhole)
    (arg12 : Memref sig .tc .vmem S1024x128 .f32) (harg12 : arg12.IsWhole)
    (arg13 : Memref sig .tc .vmem S1024x512 .bf16) (harg13 : arg13.IsWhole)
    (arg14 : Memref sig .tc .vmem S1024x128 .bf16) (harg14 : arg14.IsWhole)
    (arg15 : Memref sig .tc .vmem S1024x2048 .bf16) (harg15 : arg15.IsWhole)
    (h1 : ¬ k0_cond1 i = 1#1) (h2 : k0_cond2 i = 1#1) (h3 : ¬ k0_cond3 i = 1#1) (h4 : k0_cond4 i = 1#1) (h5 : ¬ k0_cond5 i = 1#1) (h6 : k0_cond6 i = 1#1)
    (h : S1024x2048.Idx → Elt F .bf16) (w : S512x2048.Idx → Elt F .f32) (q : S8x512.Idx → Elt F .f32) (cs : S1024x128.Idx → Elt F .f32) (sn : S1024x128.Idx → Elt F .f32) (b : S512x512.Idx → Elt F .bf16) (K : PUnit → sProp 𝕄) :
    iprop((arg15.view.loc (c : Thread nD τ) ↦[arg15.view.set]{fullShare} arg15.view.rep h)
          ∗ (arg4.view.loc (c : Thread nD τ) ↦[arg4.view.set]{fullShare} arg4.view.rep w)
          ∗ (arg7.view.loc (c : Thread nD τ) ↦[arg7.view.set]{fullShare} arg7.view.rep q)
          ∗ (arg8.view.loc (c : Thread nD τ) ↦[arg8.view.set]{fullShare} arg8.view.rep cs)
          ∗ (arg9.view.loc (c : Thread nD τ) ↦[arg9.view.set]{fullShare} arg9.view.rep sn)
          ∗ (arg10.view.loc (c : Thread nD τ) ↦[arg10.view.set]{fullShare} arg10.view.rep b)
          ∗ (∃ d, owns (c : Thread nD τ) arg11 fullShare d)
          ∗ (∃ d, owns (c : Thread nD τ) arg13 fullShare d)
          ∗ (iprop((arg15.view.loc (c : Thread nD τ) ↦[arg15.view.set]{fullShare} arg15.view.rep h)
              ∗ (arg4.view.loc (c : Thread nD τ) ↦[arg4.view.set]{fullShare} arg4.view.rep w)
              ∗ (arg7.view.loc (c : Thread nD τ) ↦[arg7.view.set]{fullShare} arg7.view.rep q)
              ∗ (arg8.view.loc (c : Thread nD τ) ↦[arg8.view.set]{fullShare} arg8.view.rep cs)
              ∗ (arg9.view.loc (c : Thread nD τ) ↦[arg9.view.set]{fullShare} arg9.view.rep sn)
              ∗ (arg10.view.loc (c : Thread nD τ) ↦[arg10.view.set]{fullShare} arg10.view.rep b)
              ∗ owns (c : Thread nD τ) arg11 fullShare (normOut (lowProd h w) q b cs sn)
              ∗ owns (c : Thread nD τ) arg13 fullShare (keptOut (normOut (lowProd h w) q b cs sn))) -∗ K ⟨⟩))
      ⊢ wp frame (wpE (defs₀ (F := F)) Variants.none c none) Set.univ
          (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  rw [cc0_inproj_eq_skeleton]; unfold cc0_inproj_skel
  simp only [k0_part2_eq_skeleton]; unfold k0_part2_skel
  simp only [k0_part3_eq_skeleton]; unfold k0_part3_skel
  iintro ⟨H15, H4, H7, H8, H9, H10, ⟨%d11, %f11, -, H11⟩, ⟨%d13, %f13, -, H13⟩, Hk⟩
  sl_exec! (disch := first | (guard_target = ¬(k0_cond1 _ = _); exact h1) | (guard_target = k0_cond2 _ = _; exact h2) | (guard_target = ¬(k0_cond3 _ = _); exact h3) | (guard_target = k0_cond4 _ = _; exact h4) | (guard_target = ¬(k0_cond5 _ = _); exact h5) | (guard_target = k0_cond6 _ = _; exact h6))
  sl_step
  iapply Hk
  isplitl [H15]; · iexact H15
  isplitl [H4]; · iexact H4
  isplitl [H7]; · iexact H7
  isplitl [H8]; · iexact H8
  isplitl [H9]; · iexact H9
  isplitl [H10]; · iexact H10
  isplitl [H11]
  · iexists _
    isplitr; swap
    · iexact H11
    · ipureintro
      have e15 := View.readAt_rep_full (Val := Elt F) arg15.view h inb_S1024x2048_S1024x2048_0_0
      have e4 := View.readAt_rep_full (Val := Elt F) arg4.view w inb_S512x2048_S512x2048_0_0
      have e7 := View.readAt_rep_full (Val := Elt F) arg7.view q inb_S8x512_S8x512_0_0
      have e8 := View.readAt_rep_full (Val := Elt F) arg8.view cs inb_S1024x128_S1024x128_0_0
      have e9 := View.readAt_rep_full (Val := Elt F) arg9.view sn inb_S1024x128_S1024x128_0_0
      have e10 := View.readAt_rep_full (Val := Elt F) arg10.view b inb_S512x512_S512x512_0_0
      unfold step_keys.sl.H11_2
      rw [View.read_writes_full]
      rw [e7, e8, e9, e10]
      refine normOut_of _ _ q b cs sn ?_
      unfold step_keys.sl.v20 step_keys.sl.H11_1
      rw [View.readCov_full, e15, e4]
      rfl
  iexists _
  isplitr; swap
  · iexact H13
  · ipureintro
    have e15 := View.readAt_rep_full (Val := Elt F) arg15.view h inb_S1024x2048_S1024x2048_0_0
    have e4 := View.readAt_rep_full (Val := Elt F) arg4.view w inb_S512x2048_S512x2048_0_0
    have e7 := View.readAt_rep_full (Val := Elt F) arg7.view q inb_S8x512_S8x512_0_0
    have e8 := View.readAt_rep_full (Val := Elt F) arg8.view cs inb_S1024x128_S1024x128_0_0
    have e9 := View.readAt_rep_full (Val := Elt F) arg9.view sn inb_S1024x128_S1024x128_0_0
    have e10 := View.readAt_rep_full (Val := Elt F) arg10.view b inb_S512x512_S512x512_0_0
    unfold step_keys.sl.H13_1
    rw [View.read_writes_full]
    unfold step_keys.sl.v20_1 step_keys.sl.H11_2
    rw [View.readCov_full]
    rw [e7, e8, e9, e10]
    refine congrArg k0_pay8 (normOut_of _ _ q b cs sn ?_)
    unfold step_keys.sl.v20 step_keys.sl.H11_1
    rw [View.readCov_full, e15, e4]
    rfl

set_option maxHeartbeats 4000000 in
/-- A step that rotates its block. -/
theorem step_rope (c : Dev nD) (i : grid0.Coords) (arg2 : Memref sig .tc .vmem S1024x2048 .f32) (harg2 : arg2.IsWhole)
    (arg3 : Memref sig .tc .vmem S1x2048 .f32) (harg3 : arg3.IsWhole)
    (arg4 : Memref sig .tc .vmem S512x2048 .f32) (harg4 : arg4.IsWhole)
    (arg5 : Memref sig .tc .vmem S512x2048 .f32) (harg5 : arg5.IsWhole)
    (arg6 : Memref sig .tc .vmem S128x2048 .f32) (harg6 : arg6.IsWhole)
    (arg7 : Memref sig .tc .vmem S8x512 .f32) (harg7 : arg7.IsWhole)
    (arg8 : Memref sig .tc .vmem S1024x128 .f32) (harg8 : arg8.IsWhole)
    (arg9 : Memref sig .tc .vmem S1024x128 .f32) (harg9 : arg9.IsWhole)
    (arg10 : Memref sig .tc .vmem S512x512 .bf16) (harg10 : arg10.IsWhole)
    (arg11 : Memref sig .tc .vmem S1024x512 .f32) (harg11 : arg11.IsWhole)
    (arg12 : Memref sig .tc .vmem S1024x128 .f32) (harg12 : arg12.IsWhole)
    (arg13 : Memref sig .tc .vmem S1024x512 .bf16) (harg13 : arg13.IsWhole)
    (arg14 : Memref sig .tc .vmem S1024x128 .bf16) (harg14 : arg14.IsWhole)
    (arg15 : Memref sig .tc .vmem S1024x2048 .bf16) (harg15 : arg15.IsWhole)
    (h1 : ¬ k0_cond1 i = 1#1) (h2 : k0_cond2 i = 1#1) (h3 : ¬ k0_cond3 i = 1#1) (h4 : ¬ k0_cond4 i = 1#1) (h5 : k0_cond5 i = 1#1) (h6 : ¬ k0_cond6 i = 1#1)
    (h : S1024x2048.Idx → Elt F .bf16) (w : S512x2048.Idx → Elt F .f32) (cs : S1024x128.Idx → Elt F .f32) (sn : S1024x128.Idx → Elt F .f32) (K : PUnit → sProp 𝕄) :
    iprop((arg15.view.loc (c : Thread nD τ) ↦[arg15.view.set]{fullShare} arg15.view.rep h)
          ∗ (arg4.view.loc (c : Thread nD τ) ↦[arg4.view.set]{fullShare} arg4.view.rep w)
          ∗ (arg8.view.loc (c : Thread nD τ) ↦[arg8.view.set]{fullShare} arg8.view.rep cs)
          ∗ (arg9.view.loc (c : Thread nD τ) ↦[arg9.view.set]{fullShare} arg9.view.rep sn)
          ∗ (∃ d, owns (c : Thread nD τ) arg11 fullShare d)
          ∗ (iprop((arg15.view.loc (c : Thread nD τ) ↦[arg15.view.set]{fullShare} arg15.view.rep h)
              ∗ (arg4.view.loc (c : Thread nD τ) ↦[arg4.view.set]{fullShare} arg4.view.rep w)
              ∗ (arg8.view.loc (c : Thread nD τ) ↦[arg8.view.set]{fullShare} arg8.view.rep cs)
              ∗ (arg9.view.loc (c : Thread nD τ) ↦[arg9.view.set]{fullShare} arg9.view.rep sn)
              ∗ owns (c : Thread nD τ) arg11 fullShare (ropeOut (lowProd h w) cs sn)) -∗ K ⟨⟩))
      ⊢ wp frame (wpE (defs₀ (F := F)) Variants.none c none) Set.univ
          (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  rw [cc0_inproj_eq_skeleton]; unfold cc0_inproj_skel
  simp only [k0_part4_eq_skeleton]; unfold k0_part4_skel
  iintro ⟨H15, H4, H8, H9, ⟨%d11, %f11, -, H11⟩, Hk⟩
  sl_exec! (disch := first | (guard_target = ¬(k0_cond1 _ = _); exact h1) | (guard_target = k0_cond2 _ = _; exact h2) | (guard_target = ¬(k0_cond3 _ = _); exact h3) | (guard_target = ¬(k0_cond4 _ = _); exact h4) | (guard_target = k0_cond5 _ = _; exact h5) | (guard_target = ¬(k0_cond6 _ = _); exact h6))
  sl_step
  iapply Hk
  isplitl [H15]; · iexact H15
  isplitl [H4]; · iexact H4
  isplitl [H8]; · iexact H8
  isplitl [H9]; · iexact H9
  iexists _
  isplitr; swap
  · iexact H11
  · ipureintro
    have e15 := View.readAt_rep_full (Val := Elt F) arg15.view h inb_S1024x2048_S1024x2048_0_0
    have e4 := View.readAt_rep_full (Val := Elt F) arg4.view w inb_S512x2048_S512x2048_0_0
    have e8 := View.readAt_rep_full (Val := Elt F) arg8.view cs inb_S1024x128_S1024x128_0_0
    have e9 := View.readAt_rep_full (Val := Elt F) arg9.view sn inb_S1024x128_S1024x128_0_0
    unfold step_rope.sl.H11_2
    rw [View.read_writes_full]
    rw [e8, e9]
    refine ropeOut_of _ _ cs sn ?_
    unfold step_rope.sl.v20 step_rope.sl.H11_1
    rw [View.readCov_full]
    rw [e15, e4]
    rfl

set_option maxHeartbeats 4000000 in
/-- A step of the gates. -/
theorem step_high (c : Dev nD) (i : grid0.Coords) (arg2 : Memref sig .tc .vmem S1024x2048 .f32) (harg2 : arg2.IsWhole)
    (arg3 : Memref sig .tc .vmem S1x2048 .f32) (harg3 : arg3.IsWhole)
    (arg4 : Memref sig .tc .vmem S512x2048 .f32) (harg4 : arg4.IsWhole)
    (arg5 : Memref sig .tc .vmem S512x2048 .f32) (harg5 : arg5.IsWhole)
    (arg6 : Memref sig .tc .vmem S128x2048 .f32) (harg6 : arg6.IsWhole)
    (arg7 : Memref sig .tc .vmem S8x512 .f32) (harg7 : arg7.IsWhole)
    (arg8 : Memref sig .tc .vmem S1024x128 .f32) (harg8 : arg8.IsWhole)
    (arg9 : Memref sig .tc .vmem S1024x128 .f32) (harg9 : arg9.IsWhole)
    (arg10 : Memref sig .tc .vmem S512x512 .bf16) (harg10 : arg10.IsWhole)
    (arg11 : Memref sig .tc .vmem S1024x512 .f32) (harg11 : arg11.IsWhole)
    (arg12 : Memref sig .tc .vmem S1024x128 .f32) (harg12 : arg12.IsWhole)
    (arg13 : Memref sig .tc .vmem S1024x512 .bf16) (harg13 : arg13.IsWhole)
    (arg14 : Memref sig .tc .vmem S1024x128 .bf16) (harg14 : arg14.IsWhole)
    (arg15 : Memref sig .tc .vmem S1024x2048 .bf16) (harg15 : arg15.IsWhole)
    (h1 : ¬ k0_cond1 i = 1#1) (h2 : ¬ k0_cond2 i = 1#1) (h3 : k0_cond3 i = 1#1) (h4 : ¬ k0_cond4 i = 1#1) (h5 : ¬ k0_cond5 i = 1#1) (h6 : ¬ k0_cond6 i = 1#1)
    (h : S1024x2048.Idx → Elt F .bf16) (w : S512x2048.Idx → Elt F .f32) (K : PUnit → sProp 𝕄) :
    iprop((arg15.view.loc (c : Thread nD τ) ↦[arg15.view.set]{fullShare} arg15.view.rep h)
          ∗ (arg5.view.loc (c : Thread nD τ) ↦[arg5.view.set]{fullShare} arg5.view.rep w)
          ∗ (∃ d, owns (c : Thread nD τ) arg11 fullShare d)
          ∗ (iprop((arg15.view.loc (c : Thread nD τ) ↦[arg15.view.set]{fullShare} arg15.view.rep h)
              ∗ (arg5.view.loc (c : Thread nD τ) ↦[arg5.view.set]{fullShare} arg5.view.rep w)
              ∗ owns (c : Thread nD τ) arg11 fullShare (highProd h w)) -∗ K ⟨⟩))
      ⊢ wp frame (wpE (defs₀ (F := F)) Variants.none c none) Set.univ
          (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  rw [cc0_inproj_eq_skeleton]; unfold cc0_inproj_skel
  iintro ⟨H15, H5, ⟨%d11, %f11, -, H11⟩, Hk⟩
  sl_exec! (disch := first | (guard_target = ¬(k0_cond1 _ = _); exact h1) | (guard_target = ¬(k0_cond2 _ = _); exact h2) | (guard_target = k0_cond3 _ = _; exact h3) | (guard_target = ¬(k0_cond4 _ = _); exact h4) | (guard_target = ¬(k0_cond5 _ = _); exact h5) | (guard_target = ¬(k0_cond6 _ = _); exact h6))
  sl_step
  iapply Hk
  isplitl [H15]; · iexact H15
  isplitl [H5]; · iexact H5
  iexists _
  isplitr; swap
  · iexact H11
  · ipureintro
    have e15 := View.readAt_rep_full (Val := Elt F) arg15.view h inb_S1024x2048_S1024x2048_0_0
    have e5 := View.readAt_rep_full (Val := Elt F) arg5.view w inb_S512x2048_S512x2048_0_0
    unfold step_high.sl.H11_1
    rw [View.read_writes_full]
    try unfold step_high.sl.v20_1
    try unfold step_high.sl.v20
    try unfold step_high.sl.r_1
    try unfold step_high.sl.H11_2
    try rw [View.readCov_full]
    try unfold step_high.sl.H11_1
    try rw [View.readCov_full]
    try rw [e15]
    try rw [e5]
    rfl

end Cert.InprojIdeal.Projections

end
-- ==== Proof.Inproj.Dat.lean ====
/- The data of the run of the projections' pallas_call: what its four result arrays hold at the end. -/
module

public import proofs.«01_k».proof.Proof.Inproj.Body

@[expose] public section

set_option maxRecDepth 16384
set_option Elab.async false

noncomputable section

namespace Cert.InprojIdeal.Projections

open Cert.InprojIdeal Cert.InprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, by the point's number -/

theorem cond1_iff : ∀ t : Fin cfg0.N, k0_cond1 (cfg0.grid.coords t) = 1#1 ↔ t.val % 16 = 0 := by decide +kernel
theorem cond2_iff : ∀ t : Fin cfg0.N, k0_cond2 (cfg0.grid.coords t) = 1#1 ↔ t.val % 16 < 8 := by decide +kernel
theorem cond3_iff : ∀ t : Fin cfg0.N, k0_cond3 (cfg0.grid.coords t) = 1#1 ↔ 8 ≤ t.val % 16 := by decide +kernel
theorem cond4_iff : ∀ t : Fin cfg0.N, k0_cond4 (cfg0.grid.coords t) = 1#1 ↔ (4 ≤ t.val % 16 ∧ t.val % 16 < 7) := by decide +kernel
theorem cond5_iff : ∀ t : Fin cfg0.N, k0_cond5 (cfg0.grid.coords t) = 1#1 ↔ t.val % 16 = 7 := by decide +kernel
theorem cond6_iff : ∀ t : Fin cfg0.N, k0_cond6 (cfg0.grid.coords t) = 1#1 ↔ t.val % 16 = 6 := by decide +kernel

theorem idle_9 : ∀ t : Fin cfg0.N, cfg0.idle (9 : Fin 13) (cfg0.grid.coords t) = false := by decide +kernel
theorem idle_10 : ∀ t : Fin cfg0.N, cfg0.idle (10 : Fin 13) (cfg0.grid.coords t) = !decide (t.val % 16 = 0) := by decide +kernel
theorem idle_11 : ∀ t : Fin cfg0.N, cfg0.idle (11 : Fin 13) (cfg0.grid.coords t) = !decide (t.val % 16 = 6) := by decide +kernel
theorem idle_12 : ∀ t : Fin cfg0.N, cfg0.idle (12 : Fin 13) (cfg0.grid.coords t) = !decide (t.val % 16 = 0) := by decide +kernel

/-! ## The blocks the steps leave -/

/-- Point `j` of row of blocks `r`. -/
def pt (r j : ℕ) : Fin cfg0.N := ⟨(16 * r + j) % 128, by rw [show cfg0.N = 128 from N_0]; exact Nat.mod_lt _ (by decide)⟩

theorem pt_div (t : Fin cfg0.N) (j : ℕ) (h : t.val % 16 = j) : pt (t.val / 16) j = t := by
  apply Fin.ext
  have : t.val < 128 := lt_of_lt_of_eq t.isLt N_0
  show (16 * (t.val / 16) + j) % 128 = t.val
  omega

/-- The normalised rows of row of blocks `r`. -/
def hRow (c : Dev nD) (r : ℕ) : S1024x2048.Idx → Elt F .bf16 := rowsOf (F := F) (iblk m c 0 (pt r 0)) (iblk m c 1 (pt r 0))
/-- The block of the first product at a point. -/
def lowAt (c : Dev nD) (t : Fin cfg0.N) : S1024x512.Idx → Elt F .f32 := lowProd (F := F) (hRow m c (t.val / 16)) (X0_2 m c t)
def normAt (c : Dev nD) (t : Fin cfg0.N) : S1024x512.Idx → Elt F .f32 :=
  normOut (F := F) (lowAt m c t) (iblk m c 5 t) (iblk m c 8 t) (iblk m c 6 t) (iblk m c 7 t)
def ropeAt (c : Dev nD) (t : Fin cfg0.N) : S1024x512.Idx → Elt F .f32 := ropeOut (F := F) (lowAt m c t) (iblk m c 6 t) (iblk m c 7 t)
def highAt (c : Dev nD) (t : Fin cfg0.N) : S1024x512.Idx → Elt F .f32 := highProd (F := F) (hRow m c (t.val / 16)) (iblk m c 3 t)
/-- What point `t` leaves in its block of the first result. -/
def mainAt (c : Dev nD) (t : Fin cfg0.N) : S1024x512.Idx → Elt F .f32 :=
  if t.val % 16 < 4 then lowAt m c t else if t.val % 16 < 7 then normAt m c t
  else if t.val % 16 = 7 then ropeAt m c t else highAt m c t
/-- What row of blocks `r` leaves in its blocks of the other three results. -/
def smallRow (c : Dev nD) (r : ℕ) : S1024x128.Idx → Elt F .f32 :=
  smallOut (F := F) (iblk m c 0 (pt r 0)) (iblk m c 1 (pt r 0)) (iblk m c 4 (pt r 0)) (iblk m c 6 (pt r 0)) (iblk m c 7 (pt r 0))
def keyRow (c : Dev nD) (r : ℕ) : S1024x128.Idx → Elt F .bf16 :=
  keyOut (F := F) (iblk m c 0 (pt r 0)) (iblk m c 1 (pt r 0)) (iblk m c 4 (pt r 0)) (iblk m c 6 (pt r 0)) (iblk m c 7 (pt r 0))
def keptRow (c : Dev nD) (r : ℕ) : S1024x512.Idx → Elt F .bf16 := keptOut (F := F) (normAt m c (pt r 6))

/-- Between points the kernel holds the normalised rows of its row of blocks, once they are made. -/
def Phi (c : Dev nD) (n : ℕ) : sProp 𝕄 :=
  iprop(∃ h : S1024x2048.Idx → Elt F .bf16, ⌜n % 16 ≠ 0 → h = hRow m c (n / 16)⌝
    ∗ owns (c : Thread nD τ) (Memref.whole cc0_scratch0) fullShare h ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c (0 : Fin 13) t
    | ⟨1, _⟩ => iblk m c (1 : Fin 13) t
    | ⟨2, _⟩ => X0_2 m c t
    | ⟨3, _⟩ => iblk m c (3 : Fin 13) t
    | ⟨4, _⟩ => iblk m c (4 : Fin 13) t
    | ⟨5, _⟩ => iblk m c (5 : Fin 13) t
    | ⟨6, _⟩ => iblk m c (6 : Fin 13) t
    | ⟨7, _⟩ => iblk m c (7 : Fin 13) t
    | ⟨8, _⟩ => iblk m c (8 : Fin 13) t
    | ⟨9, _⟩ => mainAt m c t
    | ⟨10, _⟩ => smallRow m c (t.val / 16)
    | ⟨11, _⟩ => keptRow m c (t.val / 16)
    | ⟨12, _⟩ => keyRow m c (t.val / 16)
  Φ t := Phi m c t.val
  q w := Pipeline.shareOf spec0 w
  owed _ := 0

theorem after_0 (c : Dev nD) (t : Fin cfg0.N) : (dats m 0 c).after (0 : Fin 13) t = iblk m c (0 : Fin 13) t := rfl
theorem after_1 (c : Dev nD) (t : Fin cfg0.N) : (dats m 0 c).after (1 : Fin 13) t = iblk m c (1 : Fin 13) t := rfl
theorem after_2 (c : Dev nD) (t : Fin cfg0.N) : (dats m 0 c).after (2 : Fin 13) t = X0_2 m c t := rfl
theorem after_3 (c : Dev nD) (t : Fin cfg0.N) : (dats m 0 c).after (3 : Fin 13) t = iblk m c (3 : Fin 13) t := rfl
theorem after_4 (c : Dev nD) (t : Fin cfg0.N) : (dats m 0 c).after (4 : Fin 13) t = iblk m c (4 : Fin 13) t := rfl
theorem after_5 (c : Dev nD) (t : Fin cfg0.N) : (dats m 0 c).after (5 : Fin 13) t = iblk m c (5 : Fin 13) t := rfl
theorem after_6 (c : Dev nD) (t : Fin cfg0.N) : (dats m 0 c).after (6 : Fin 13) t = iblk m c (6 : Fin 13) t := rfl
theorem after_7 (c : Dev nD) (t : Fin cfg0.N) : (dats m 0 c).after (7 : Fin 13) t = iblk m c (7 : Fin 13) t := rfl
theorem after_8 (c : Dev nD) (t : Fin cfg0.N) : (dats m 0 c).after (8 : Fin 13) t = iblk m c (8 : Fin 13) t := rfl
theorem after_9 (c : Dev nD) (t : Fin cfg0.N) : (dats m 0 c).after (9 : Fin 13) t = mainAt m c t := rfl
theorem after_10 (c : Dev nD) (t : Fin cfg0.N) : (dats m 0 c).after (10 : Fin 13) t = smallRow m c (t.val / 16) := rfl
theorem after_11 (c : Dev nD) (t : Fin cfg0.N) : (dats m 0 c).after (11 : Fin 13) t = keptRow m c (t.val / 16) := rfl
theorem after_12 (c : Dev nD) (t : Fin cfg0.N) : (dats m 0 c).after (12 : Fin 13) t = keyRow m c (t.val / 16) := rfl
theorem before_0 (c : Dev nD) (t : Fin cfg0.N) (d) : (dats m 0 c).before (0 : Fin 13) t d = iblk m c (0 : Fin 13) t :=
  before0_0_of m (dats m 0 c) rfl (after_0 m c) t d
theorem before_1 (c : Dev nD) (t : Fin cfg0.N) (d) : (dats m 0 c).before (1 : Fin 13) t d = iblk m c (1 : Fin 13) t :=
  before0_1_of m (dats m 0 c) rfl (after_1 m c) t d
theorem before_2 (c : Dev nD) (t : Fin cfg0.N) (d) : (dats m 0 c).before (2 : Fin 13) t d = X0_2 m c t :=
  before0_2_of m (dats m 0 c) rfl (after_2 m c) t d
theorem before_3 (c : Dev nD) (t : Fin cfg0.N) (d) : (dats m 0 c).before (3 : Fin 13) t d = iblk m c (3 : Fin 13) t :=
  before0_3_of m (dats m 0 c) rfl (after_3 m c) t d
theorem before_4 (c : Dev nD) (t : Fin cfg0.N) (d) : (dats m 0 c).before (4 : Fin 13) t d = iblk m c (4 : Fin 13) t :=
  before0_4_of m (dats m 0 c) rfl (after_4 m c) t d
theorem before_5 (c : Dev nD) (t : Fin cfg0.N) (d) : (dats m 0 c).before (5 : Fin 13) t d = iblk m c (5 : Fin 13) t :=
  before0_5_of m (dats m 0 c) rfl (after_5 m c) t d
theorem before_6 (c : Dev nD) (t : Fin cfg0.N) (d) : (dats m 0 c).before (6 : Fin 13) t d = iblk m c (6 : Fin 13) t :=
  before0_6_of m (dats m 0 c) rfl (after_6 m c) t d
theorem before_7 (c : Dev nD) (t : Fin cfg0.N) (d) : (dats m 0 c).before (7 : Fin 13) t d = iblk m c (7 : Fin 13) t :=
  before0_7_of m (dats m 0 c) rfl (after_7 m c) t d
theorem before_8 (c : Dev nD) (t : Fin cfg0.N) (d) : (dats m 0 c).before (8 : Fin 13) t d = iblk m c (8 : Fin 13) t :=
  before0_8_of m (dats m 0 c) rfl (after_8 m c) t d

/-! ## The results stored at some points only -/

theorem fresh_10 (n : ℕ) (h : n ≤ cfg0.N) : cfg0.fresh (10 : Fin 13) n = (n % 16 == 0) :=
  cfg0.fresh_tab (10 : Fin 13) (fun n => n % 16 == 0) rfl (by decide +kernel) n h

theorem last_10 (c : Dev nD) (t : Fin cfg0.N) (ht : t.val % 16 = 15) (d) :
    (dats m 0 c).before (10 : Fin 13) t d = (dats m 0 c).after (10 : Fin 13) t := by
  rw [(dats m 0 c).before_out_traj (10 : Fin 13) rfl (fun _ _ => rfl) (fun t h0 hi hf => by
      rw [fresh_10 _ (le_of_lt t.isLt)] at hf
      rw [after_10, after_10]
      have h16 : t.val % 16 ≠ 0 := by intro h; simp [h] at hf
      rw [show (t.val - 1) / 16 = t.val / 16 from by omega]) t.val t rfl d]
  rw [if_neg (by rw [fresh_10 _ (le_of_lt t.isLt), ht]; decide), after_10, after_10]
  rw [show (t.val - 1) / 16 = t.val / 16 from by omega]

theorem fresh_12 (n : ℕ) (h : n ≤ cfg0.N) : cfg0.fresh (12 : Fin 13) n = (n % 16 == 0) :=
  cfg0.fresh_tab (12 : Fin 13) (fun n => n % 16 == 0) rfl (by decide +kernel) n h

theorem last_12 (c : Dev nD) (t : Fin cfg0.N) (ht : t.val % 16 = 15) (d) :
    (dats m 0 c).before (12 : Fin 13) t d = (dats m 0 c).after (12 : Fin 13) t := by
  rw [(dats m 0 c).before_out_traj (12 : Fin 13) rfl (fun _ _ => rfl) (fun t h0 hi hf => by
      rw [fresh_12 _ (le_of_lt t.isLt)] at hf
      rw [after_12, after_12]
      have h16 : t.val % 16 ≠ 0 := by intro h; simp [h] at hf
      rw [show (t.val - 1) / 16 = t.val / 16 from by omega]) t.val t rfl d]
  rw [if_neg (by rw [fresh_12 _ (le_of_lt t.isLt), ht]; decide), after_12, after_12]
  rw [show (t.val - 1) / 16 = t.val / 16 from by omega]

theorem fresh_11 (n : ℕ) (h : n ≤ cfg0.N) : cfg0.fresh (11 : Fin 13) n = (decide (n % 16 ≤ 6)) :=
  cfg0.fresh_tab (11 : Fin 13) (fun n => decide (n % 16 ≤ 6)) rfl (by decide +kernel) n h

theorem last_11 (c : Dev nD) (t : Fin cfg0.N) (ht : t.val % 16 = 15) (d) :
    (dats m 0 c).before (11 : Fin 13) t d = (dats m 0 c).after (11 : Fin 13) t := by
  rw [(dats m 0 c).before_out_traj (11 : Fin 13) rfl (fun _ _ => rfl) (fun t h0 hi hf => by
      rw [fresh_11 _ (le_of_lt t.isLt)] at hf
      rw [after_11, after_11]
      have h16 : t.val % 16 ≠ 0 := by intro h; simp [h] at hf
      rw [show (t.val - 1) / 16 = t.val / 16 from by omega]) t.val t rfl d]
  rw [if_neg (by rw [fresh_11 _ (le_of_lt t.isLt), ht]; decide), after_11, after_11]
  rw [show (t.val - 1) / 16 = t.val / 16 from by omega]

/-- What the pipeline wants of window `w`'s buffer after point `t`. -/
abbrev Post (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem post_of_owns (c : Dev nD) (w : Fin cfg0.W) (t : Fin cfg0.N) (hi : cfg0.idle w (cfg0.grid.coords t) = false)
    (v : (cfg0.win w).block.Idx → Elt F (cfg0.win w).elt) (hv : v = (dats m 0 c).after w t) :
    (owns (c : Thread nD τ) ((cfg0.win w).stage (cfg0.slots t w)) fullShare v : sProp 𝕄) ⊢ Post m c w t := by
  subst hv; unfold Post; rw [hi]

theorem post_of_idle (c : Dev nD) (w : Fin cfg0.W) (t : Fin cfg0.N) (hi : cfg0.idle w (cfg0.grid.coords t) = true)
    (hl : (cfg0.win w).flush t = true → ∀ d, (dats m 0 c).before w t d = (dats m 0 c).after w t) :
    (iprop(∃ d, owns (c : Thread nD τ) ((cfg0.win w).stage (cfg0.slots t w)) fullShare ((dats m 0 c).before w t d)) : sProp 𝕄) ⊢ Post m c w t := by
  unfold Post; rw [hi]
  cases hf : (cfg0.win w).flush t
  · exact .rfl
  · show _ ⊢ (owns (c : Thread nD τ) ((cfg0.win w).stage (cfg0.slots t w)) fullShare ((dats m 0 c).after w t) : sProp 𝕄)
    iintro ⟨%d, H⟩
    rw [hl hf d]; iexact H

theorem idle_post_10 (c : Dev nD) (t : Fin cfg0.N) (h : t.val % 16 ≠ 0) :
    (iprop(∃ d, owns (c : Thread nD τ) (st0_10 t) fullShare ((dats m 0 c).before (10 : Fin 13) t d)) : sProp 𝕄) ⊢ Post m c (10 : Fin 13) t :=
  post_of_idle m c (10 : Fin 13) t (by rw [idle_10, decide_eq_false h]; rfl) fun hf d => last_10 m c t ((flush0_10 t).mp hf) d

theorem idle_post_11 (c : Dev nD) (t : Fin cfg0.N) (h : t.val % 16 ≠ 6) :
    (iprop(∃ d, owns (c : Thread nD τ) (st0_11 t) fullShare ((dats m 0 c).before (11 : Fin 13) t d)) : sProp 𝕄) ⊢ Post m c (11 : Fin 13) t :=
  post_of_idle m c (11 : Fin 13) t (by rw [idle_11, decide_eq_false h]; rfl) fun hf d => last_11 m c t ((flush0_11 t).mp hf) d

theorem idle_post_12 (c : Dev nD) (t : Fin cfg0.N) (h : t.val % 16 ≠ 0) :
    (iprop(∃ d, owns (c : Thread nD τ) (st0_12 t) fullShare ((dats m 0 c).before (12 : Fin 13) t d)) : sProp 𝕄) ⊢ Post m c (12 : Fin 13) t :=
  post_of_idle m c (12 : Fin 13) t (by rw [idle_12, decide_eq_false h]; rfl) fun hf d => last_12 m c t ((flush0_12 t).mp hf) d

theorem mainAt_low (c : Dev nD) (t : Fin cfg0.N) (h : t.val % 16 < 4) : mainAt m c t = lowAt m c t := if_pos h
theorem mainAt_norm (c : Dev nD) (t : Fin cfg0.N) (h : ¬ t.val % 16 < 4) (h' : t.val % 16 < 7) : mainAt m c t = normAt m c t := by
  unfold mainAt; simp only [if_neg h, if_pos h']
theorem mainAt_rope (c : Dev nD) (t : Fin cfg0.N) (h : t.val % 16 = 7) : mainAt m c t = ropeAt m c t := by
  unfold mainAt; simp only [if_neg (show ¬ t.val % 16 < 4 by omega), if_neg (show ¬ t.val % 16 < 7 by omega), if_pos h]
theorem mainAt_high (c : Dev nD) (t : Fin cfg0.N) (h : 8 ≤ t.val % 16) : mainAt m c t = highAt m c t := by
  unfold mainAt; simp only [if_neg (show ¬ t.val % 16 < 4 by omega), if_neg (show ¬ t.val % 16 < 7 by omega), if_neg (show ¬ t.val % 16 = 7 by omega)]

theorem smallRow_at (c : Dev nD) (t : Fin cfg0.N) (h : t.val % 16 = 0) :
    smallOut (F := F) (iblk m c 0 t) (iblk m c 1 t) (iblk m c 4 t) (iblk m c 6 t) (iblk m c 7 t) = (dats m 0 c).after (10 : Fin 13) t := by
  rw [after_10]; unfold smallRow; rw [pt_div t 0 h]
theorem keyRow_at (c : Dev nD) (t : Fin cfg0.N) (h : t.val % 16 = 0) :
    keyOut (F := F) (iblk m c 0 t) (iblk m c 1 t) (iblk m c 4 t) (iblk m c 6 t) (iblk m c 7 t) = (dats m 0 c).after (12 : Fin 13) t := by
  rw [after_12]; unfold keyRow; rw [pt_div t 0 h]
theorem keptRow_at (c : Dev nD) (t : Fin cfg0.N) (h : t.val % 16 = 6) :
    keptOut (F := F) (normAt m c t) = (dats m 0 c).after (11 : Fin 13) t := by
  rw [after_11]; unfold keptRow; rw [pt_div t 6 h]
theorem lowAt_first (c : Dev nD) (t : Fin cfg0.N) (h : t.val % 16 = 0) :
    lowProd (F := F) (rowsOf (F := F) (iblk m c 0 t) (iblk m c 1 t)) (X0_2 m c t) = (dats m 0 c).after (9 : Fin 13) t := by
  rw [after_9, mainAt_low m c t (by omega)]; unfold lowAt hRow; rw [pt_div t 0 h]

end Cert.InprojIdeal.Projections

end
-- ==== Proof.Inproj.Launch.lean ====
/- The run of the projections' pallas_call: what its four result arrays hold at the end. -/
module

public import proofs.«01_k».proof.Proof.Inproj.Dat

@[expose] public section

set_option maxRecDepth 16384
set_option Elab.async false

noncomputable section

namespace Cert.InprojIdeal.Projections

open Cert.InprojIdeal Cert.InprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point -/

set_option maxHeartbeats 1000000 in
theorem at_step_first (c : Dev nD) (t : Fin cfg0.N) (ht : t.val % 16 = 0) :
    iprop(Phi m c t.val ∗ (dats m 0 c).owesAt () t.castSucc
        ∗ (∃ d, owns (c : Thread nD τ) (st0_0 t) fullShare ((dats m 0 c).before (0 : Fin 13) t d))
        ∗ (∃ d, owns (c : Thread nD τ) (st0_1 t) fullShare ((dats m 0 c).before (1 : Fin 13) t d))
        ∗ (∃ d, owns (c : Thread nD τ) (st0_2 t) fullShare ((dats m 0 c).before (2 : Fin 13) t d))
        ∗ (∃ d, owns (c : Thread nD τ) (st0_3 t) fullShare ((dats m 0 c).before (3 : Fin 13) t d))
        ∗ (∃ d, owns (c : Thread nD τ) (st0_4 t) fullShare ((dats m 0 c).before (4 : Fin 13) t d))
        ∗ (∃ d, owns (c : Thread nD τ) (st0_5 t) fullShare ((dats m 0 c).before (5 : Fin 13) t d))
        ∗ (∃ d, owns (c : Thread nD τ) (st0_6 t) fullShare ((dats m 0 c).before (6 : Fin 13) t d))
        ∗ (∃ d, owns (c : Thread nD τ) (st0_7 t) fullShare ((dats m 0 c).before (7 : Fin 13) t d))
        ∗ (∃ d, owns (c : Thread nD τ) (st0_8 t) fullShare ((dats m 0 c).before (8 : Fin 13) t d))
        ∗ (∃ d, owns (c : Thread nD τ) (st0_9 t) fullShare ((dats m 0 c).before (9 : Fin 13) t d))
        ∗ (∃ d, owns (c : Thread nD τ) (st0_10 t) fullShare ((dats m 0 c).before (10 : Fin 13) t d))
        ∗ (∃ d, owns (c : Thread nD τ) (st0_11 t) fullShare ((dats m 0 c).before (11 : Fin 13) t d))
        ∗ (∃ d, owns (c : Thread nD τ) (st0_12 t) fullShare ((dats m 0 c).before (12 : Fin 13) t d)))
      ⊢ wp frame (wpE (defs₀ (F := F)) Variants.none c none) Set.univ (bodyAt0 t) fun _ =>
          iprop(Phi m c (t.val + 1) ∗ (dats m 0 c).owesAt () t.castSucc
            ∗ Post m c (0 : Fin 13) t
            ∗ Post m c (1 : Fin 13) t
            ∗ Post m c (2 : Fin 13) t
            ∗ Post m c (3 : Fin 13) t
            ∗ Post m c (4 : Fin 13) t
            ∗ Post m c (5 : Fin 13) t
            ∗ Post m c (6 : Fin 13) t
            ∗ Post m c (7 : Fin 13) t
            ∗ Post m c (8 : Fin 13) t
            ∗ Post m c (9 : Fin 13) t
            ∗ Post m c (10 : Fin 13) t
            ∗ Post m c (11 : Fin 13) t
            ∗ Post m c (12 : Fin 13) t) := by
  simp only [before_0, before_1, before_2, before_3, before_4, before_5, before_6, before_7, before_8]
  unfold Phi
  iintro ⟨⟨%h, %hh, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  iapply (step_first (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) ((cond1_iff t).mpr (by omega)) ((cond2_iff t).mpr (by omega)) (fun hc => absurd ((cond3_iff t).mp hc) (by omega)) (fun hc => absurd ((cond4_iff t).mp hc) (by omega)) (fun hc => absurd ((cond5_iff t).mp hc) (by omega)) (fun hc => absurd ((cond6_iff t).mp hc) (by omega))
    (iblk m c 0 t) (iblk m c 1 t) (X0_2 m c t) (iblk m c 4 t) (iblk m c 6 t) (iblk m c 7 t) _)
  isplitl [H0]; · iapply rep_of_owns; iexact H0
  isplitl [H1]; · iapply rep_of_owns; iexact H1
  isplitl [H2]; · iapply rep_of_owns; iexact H2
  isplitl [H4]; · iapply rep_of_owns; iexact H4
  isplitl [H6]; · iapply rep_of_owns; iexact H6
  isplitl [H7]; · iapply rep_of_owns; iexact H7
  isplitl [H9]
  · icases H9 with ⟨%d, H9⟩; iexists _; iexact H9
  isplitl [H10]
  · icases H10 with ⟨%d, H10⟩; iexists _; iexact H10
  isplitl [H12]
  · icases H12 with ⟨%d, H12⟩; iexists _; iexact H12
  isplitl [HS]; · iexists _; iexact HS
  iintro ⟨H0, H1, H2, H4, H6, H7, H9, H10, H12, HS⟩
  isplitl [HS HR]
  · iexists _; isplitr; swap
    · isplitl [HS]; · iexact HS
      iexact HR
    · ipureintro; intro _; rw [show (t.val + 1) / 16 = t.val / 16 from by omega]; unfold hRow; rw [pt_div t 0 ht]
  isplitl [Ho]; · iexact Ho
  isplitl [H0]
  · iapply (post_of_owns m c (0 : Fin 13) t rfl _ rfl); iapply owns_of_rep; iexact H0
  isplitl [H1]
  · iapply (post_of_owns m c (1 : Fin 13) t rfl _ rfl); iapply owns_of_rep; iexact H1
  isplitl [H2]
  · iapply (post_of_owns m c (2 : Fin 13) t rfl _ rfl); iapply owns_of_rep; iexact H2
  isplitl [H3]
  · iapply (post_of_owns m c (3 : Fin 13) t rfl _ rfl); iexact H3
  isplitl [H4]
  · iapply (post_of_owns m c (4 : Fin 13) t rfl _ rfl); iapply owns_of_rep; iexact H4
  isplitl [H5]
  · iapply (post_of_owns m c (5 : Fin 13) t rfl _ rfl); iexact H5
  isplitl [H6]
  · iapply (post_of_owns m c (6 : Fin 13) t rfl _ rfl); iapply owns_of_rep; iexact H6
  isplitl [H7]
  · iapply (post_of_owns m c (7 : Fin 13) t rfl _ rfl); iapply owns_of_rep; iexact H7
  isplitl [H8]
  · iapply (post_of_owns m c (8 : Fin 13) t rfl _ rfl); iexact H8
  isplitl [H9]
  · iapply (post_of_owns m c (9 : Fin 13) t (idle_9 t) (lowProd (F := F) (rowsOf (F := F) (iblk m c 0 t) (iblk m c 1 t)) (X0_2 m c t)) (lowAt_first m c t ht)); iexact H9
  isplitl [H10]
  · iapply (post_of_owns m c (10 : Fin 13) t (by rw [idle_10, decide_eq_true ht]; rfl) (smallOut (F := F) (iblk m c 0 t) (iblk m c 1 t) (iblk m c 4 t) (iblk m c 6 t) (iblk m c 7 t)) (smallRow_at m c t ht)); iexact H10
  isplitl [H11]
  · iapply (idle_post_11 m c t (by omega)); iexact H11
  iapply (post_of_owns m c (12 : Fin 13) t (by rw [idle_12, decide_eq_true ht]; rfl) (keyOut (F := F) (iblk m c 0 t) (iblk m c 1 t) (iblk m c 4 t) (iblk m c 6 t) (iblk m c 7 t)) (keyRow_at m c t ht)); iexact H12

set_option maxHeartbeats 1000000 in
theorem at_step_low (c : Dev nD) (t : Fin cfg0.N) (ht : 0 < t.val % 16 ∧ t.val % 16 < 4) :
    iprop(Phi m c t.val ∗ (dats m 0 c).owesAt () t.castSucc
        ∗ (∃ d, owns (c : Thread nD τ) (st0_0 t) fullShare ((dats m 0 c).before (0 : Fin 13) t d))
        ∗ (∃ d, owns (c : Thread nD τ) (st0_1 t) fullShare ((dats m 0 c).before (1 : Fin 13) t d))
        ∗ (∃ d, owns (c : Thread nD τ) (st0_2 t) fullShare ((dats m 0 c).before (2 : Fin 13) t d))
        ∗ (∃ d, owns (c : Thread nD τ) (st0_3 t) fullShare ((dats m 0 c).before (3 : Fin 13) t d))
        ∗ (∃ d, owns (c : Thread nD τ) (st0_4 t) fullShare ((dats m 0 c).before (4 : Fin 13) t d))
        ∗ (∃ d, owns (c : Thread nD τ) (st0_5 t) fullShare ((dats m 0 c).before (5 : Fin 13) t d))
        ∗ (∃ d, owns (c : Thread nD τ) (st0_6 t) fullShare ((dats m 0 c).before (6 : Fin 13) t d))
        ∗ (∃ d, owns (c : Thread nD τ) (st0_7 t) fullShare ((dats m 0 c).before (7 : Fin 13) t d))
        ∗ (∃ d, owns (c : Thread nD τ) (st0_8 t) fullShare ((dats m 0 c).before (8 : Fin 13) t d))
        ∗ (∃ d, owns (c : Thread nD τ) (st0_9 t) fullShare ((dats m 0 c).before (9 : Fin 13) t d))
        ∗ (∃ d, owns (c : Thread nD τ) (st0_10 t) fullShare ((dats m 0 c).before (10 : Fin 13) t d))
        ∗ (∃ d, owns (c : Thread nD τ) (st0_11 t) fullShare ((dats m 0 c).before (11 : Fin 13) t d))
        ∗ (∃ d, owns (c : Thread nD τ) (st0_12 t) fullShare ((dats m 0 c).before (12 : Fin 13) t d)))
      ⊢ wp frame (wpE (defs₀ (F := F)) Variants.none c none) Set.univ (bodyAt0 t) fun _ =>
          iprop(Phi m c (t.val + 1) ∗ (dats m 0 c).owesAt () t.castSucc
            ∗ Post m c (0 : Fin 13) t
            ∗ Post m c (1 : Fin 13) t
            ∗ Post m c (2 : Fin 13) t
            ∗ Post m c (3 : Fin 13) t
            ∗ Post m c (4 : Fin 13) t
            ∗ Post m c (5 : Fin 13) t
            ∗ Post m c (6 : Fin 13) t
            ∗ Post m c (7 : Fin 13) t
            ∗ Post m c (8 : Fin 13) t
            ∗ Post m c (9 : Fin 13) t
            ∗ Post m c (10 : Fin 13) t
            ∗ Post m c (11 : Fin 13) t
            ∗ Post m c (12 : Fin 13) t) := by
  simp only [before_0, before_1, before_2, before_3, before_4, before_5, before_6, before_7, before_8]
  unfold Phi
  iintro ⟨⟨%h, %hh, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  obtain rfl := hh (by omega)
  iapply (step_low (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (fun hc => absurd ((cond1_iff t).mp hc) (by omega)) ((cond2_iff t).mpr (by omega)) (fun hc => absurd ((cond3_iff t).mp hc) (by omega)) (fun hc => absurd ((cond4_iff t).mp hc) (by omega)) (fun hc => absurd ((cond5_iff t).mp hc) (by omega)) (fun hc => absurd ((cond6_iff t).mp hc) (by omega))
    (hRow m c (t.val / 16)) (X0_2 m c t) _)
  isplitl [HS]; · iapply rep_of_owns; iexact HS
  isplitl [H2]; · iapply rep_of_owns; iexact H2
  isplitl [H9]
  · icases H9 with ⟨%d, H9⟩; iexists _; iexact H9
  iintro ⟨HS, H2, H9⟩
  isplitl [HS HR]
  · iexists _; isplitr; swap
    · isplitl [HS]; · iapply owns_of_rep; iexact HS
      iexact HR
    · ipureintro; intro _; rw [show (t.val + 1) / 16 = t.val / 16 from by omega]
  isplitl [Ho]; · iexact Ho
  isplitl [H0]
  · iapply (post_of_owns m c (0 : Fin 13) t rfl _ rfl); iexact H0
  isplitl [H1]
  · iapply (post_of_owns m c (1 : Fin 13) t rfl _ rfl); iexact H1
  isplitl [H2]
  · iapply (post_of_owns m c (2 : Fin 13) t rfl _ rfl); iapply owns_of_rep; iexact H2
  isplitl [H3]
  · iapply (post_of_owns m c (3 : Fin 13) t rfl _ rfl); iexact H3
  isplitl [H4]
  · iapply (post_of_owns m c (4 : Fin 13) t rfl _ rfl); iexact H4
  isplitl [H5]
  · iapply (post_of_owns m c (5 : Fin 13) t rfl _ rfl); iexact H5
  isplitl [H6]
  · iapply (post_of_owns m c (6 : Fin 13) t rfl _ rfl); iexact H6
  isplitl [H7]
  · iapply (post_of_owns m c (7 : Fin 13) t rfl _ rfl); iexact H7
  isplitl [H8]
  · iapply (post_of_owns m c (8 : Fin 13) t rfl _ rfl); iexact H8
  isplitl [H9]
  · iapply (post_of_owns m c (9 : Fin 13) t (idle_9 t) (lowAt m c t) (mainAt_low m c t (by omega)).symm); iexact H9
  isplitl [H10]
  · iapply (idle_post_10 m c t (by omega)); iexact H10
  isplitl [H11]
  · iapply (idle_post_11 m c t (by omega)); iexact H11
  iapply (idle_post_12 m c t (by omega)); iexact H12

set_option maxHeartbeats 1000000 in
theorem at_step_norm (c : Dev nD) (t : Fin cfg0.N) (ht : 4 ≤ t.val % 16 ∧ t.val % 16 < 6) :
    iprop(Phi m c t.val ∗ (dats m 0 c).owesAt () t.castSucc
        ∗ (∃ d, owns (c : Thread nD τ) (st0_0 t) fullShare ((dats m 0 c).before (0 : Fin 13) t d))
        ∗ (∃ d, owns (c : Thread nD τ) (st0_1 t) fullShare ((dats m 0 c).before (1 : Fin 13) t d))
        ∗ (∃ d, owns (c : Thread nD τ) (st0_2 t) fullShare ((dats m 0 c).before (2 : Fin 13) t d))
        ∗ (∃ d, owns (c : Thread nD τ) (st0_3 t) fullShare ((dats m 0 c).before (3 : Fin 13) t d))
        ∗ (∃ d, owns (c : Thread nD τ) (st0_4 t) fullShare ((dats m 0 c).before (4 : Fin 13) t d))
        ∗ (∃ d, owns (c : Thread nD τ) (st0_5 t) fullShare ((dats m 0 c).before (5 : Fin 13) t d))
        ∗ (∃ d, owns (c : Thread nD τ) (st0_6 t) fullShare ((dats m 0 c).before (6 : Fin 13) t d))
        ∗ (∃ d, owns (c : Thread nD τ) (st0_7 t) fullShare ((dats m 0 c).before (7 : Fin 13) t d))
        ∗ (∃ d, owns (c : Thread nD τ) (st0_8 t) fullShare ((dats m 0 c).before (8 : Fin 13) t d))
        ∗ (∃ d, owns (c : Thread nD τ) (st0_9 t) fullShare ((dats m 0 c).before (9 : Fin 13) t d))
        ∗ (∃ d, owns (c : Thread nD τ) (st0_10 t) fullShare ((dats m 0 c).before (10 : Fin 13) t d))
        ∗ (∃ d, owns (c : Thread nD τ) (st0_11 t) fullShare ((dats m 0 c).before (11 : Fin 13) t d))
        ∗ (∃ d, owns (c : Thread nD τ) (st0_12 t) fullShare ((dats m 0 c).before (12 : Fin 13) t d)))
      ⊢ wp frame (wpE (defs₀ (F := F)) Variants.none c none) Set.univ (bodyAt0 t) fun _ =>
          iprop(Phi m c (t.val + 1) ∗ (dats m 0 c).owesAt () t.castSucc
            ∗ Post m c (0 : Fin 13) t
            ∗ Post m c (1 : Fin 13) t
            ∗ Post m c (2 : Fin 13) t
            ∗ Post m c (3 : Fin 13) t
            ∗ Post m c (4 : Fin 13) t
            ∗ Post m c (5 : Fin 13) t
            ∗ Post m c (6 : Fin 13) t
            ∗ Post m c (7 : Fin 13) t
            ∗ Post m c (8 : Fin 13) t
            ∗ Post m c (9 : Fin 13) t
            ∗ Post m c (10 : Fin 13) t
            ∗ Post m c (11 : Fin 13) t
            ∗ Post m c (12 : Fin 13) t) := by
  simp only [before_0, before_1, before_2, before_3, before_4, before_5, before_6, before_7, before_8]
  unfold Phi
  iintro ⟨⟨%h, %hh, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  obtain rfl := hh (by omega)
  iapply (step_norm (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (fun hc => absurd ((cond1_iff t).mp hc) (by omega)) ((cond2_iff t).mpr (by omega)) (fun hc => absurd ((cond3_iff t).mp hc) (by omega)) ((cond4_iff t).mpr (by omega)) (fun hc => absurd ((cond5_iff t).mp hc) (by omega)) (fun hc => absurd ((cond6_iff t).mp hc) (by omega))
    (hRow m c (t.val / 16)) (X0_2 m c t) (iblk m c 5 t) (iblk m c 6 t) (iblk m c 7 t) (iblk m c 8 t) _)
  isplitl [HS]; · iapply rep_of_owns; iexact HS
  isplitl [H2]; · iapply rep_of_owns; iexact H2
  isplitl [H5]; · iapply rep_of_owns; iexact H5
  isplitl [H6]; · iapply rep_of_owns; iexact H6
  isplitl [H7]; · iapply rep_of_owns; iexact H7
  isplitl [H8]; · iapply rep_of_owns; iexact H8
  isplitl [H9]
  · icases H9 with ⟨%d, H9⟩; iexists _; iexact H9
  iintro ⟨HS, H2, H5, H6, H7, H8, H9⟩
  isplitl [HS HR]
  · iexists _; isplitr; swap
    · isplitl [HS]; · iapply owns_of_rep; iexact HS
      iexact HR
    · ipureintro; intro _; rw [show (t.val + 1) / 16 = t.val / 16 from by omega]
  isplitl [Ho]; · iexact Ho
  isplitl [H0]
  · iapply (post_of_owns m c (0 : Fin 13) t rfl _ rfl); iexact H0
  isplitl [H1]
  · iapply (post_of_owns m c (1 : Fin 13) t rfl _ rfl); iexact H1
  isplitl [H2]
  · iapply (post_of_owns m c (2 : Fin 13) t rfl _ rfl); iapply owns_of_rep; iexact H2
  isplitl [H3]
  · iapply (post_of_owns m c (3 : Fin 13) t rfl _ rfl); iexact H3
  isplitl [H4]
  · iapply (post_of_owns m c (4 : Fin 13) t rfl _ rfl); iexact H4
  isplitl [H5]
  · iapply (post_of_owns m c (5 : Fin 13) t rfl _ rfl); iapply owns_of_rep; iexact H5
  isplitl [H6]
  · iapply (post_of_owns m c (6 : Fin 13) t rfl _ rfl); iapply owns_of_rep; iexact H6
  isplitl [H7]
  · iapply (post_of_owns m c (7 : Fin 13) t rfl _ rfl); iapply owns_of_rep; iexact H7
  isplitl [H8]
  · iapply (post_of_owns m c (8 : Fin 13) t rfl _ rfl); iapply owns_of_rep; iexact H8
  isplitl [H9]
  · iapply (post_of_owns m c (9 : Fin 13) t (idle_9 t) (normAt m c t) (mainAt_norm m c t (by omega) (by omega)).symm); iexact H9
  isplitl [H10]
  · iapply (idle_post_10 m c t (by omega)); iexact H10
  isplitl [H11]
  · iapply (idle_post_11 m c t (by omega)); iexact H11
  iapply (idle_post_12 m c t (by omega)); iexact H12

set_option maxHeartbeats 1000000 in
theorem at_step_keys (c : Dev nD) (t : Fin cfg0.N) (ht : t.val % 16 = 6) :
    iprop(Phi m c t.val ∗ (dats m 0 c).owesAt () t.castSucc
        ∗ (∃ d, owns (c : Thread nD τ) (st0_0 t) fullShare ((dats m 0 c).before (0 : Fin 13) t d))
        ∗ (∃ d, owns (c : Thread nD τ) (st0_1 t) fullShare ((dats m 0 c).before (1 : Fin 13) t d))
        ∗ (∃ d, owns (c : Thread nD τ) (st0_2 t) fullShare ((dats m 0 c).before (2 : Fin 13) t d))
        ∗ (∃ d, owns (c : Thread nD τ) (st0_3 t) fullShare ((dats m 0 c).before (3 : Fin 13) t d))
        ∗ (∃ d, owns (c : Thread nD τ) (st0_4 t) fullShare ((dats m 0 c).before (4 : Fin 13) t d))
        ∗ (∃ d, owns (c : Thread nD τ) (st0_5 t) fullShare ((dats m 0 c).before (5 : Fin 13) t d))
        ∗ (∃ d, owns (c : Thread nD τ) (st0_6 t) fullShare ((dats m 0 c).before (6 : Fin 13) t d))
        ∗ (∃ d, owns (c : Thread nD τ) (st0_7 t) fullShare ((dats m 0 c).before (7 : Fin 13) t d))
        ∗ (∃ d, owns (c : Thread nD τ) (st0_8 t) fullShare ((dats m 0 c).before (8 : Fin 13) t d))
        ∗ (∃ d, owns (c : Thread nD τ) (st0_9 t) fullShare ((dats m 0 c).before (9 : Fin 13) t d))
        ∗ (∃ d, owns (c : Thread nD τ) (st0_10 t) fullShare ((dats m 0 c).before (10 : Fin 13) t d))
        ∗ (∃ d, owns (c : Thread nD τ) (st0_11 t) fullShare ((dats m 0 c).before (11 : Fin 13) t d))
        ∗ (∃ d, owns (c : Thread nD τ) (st0_12 t) fullShare ((dats m 0 c).before (12 : Fin 13) t d)))
      ⊢ wp frame (wpE (defs₀ (F := F)) Variants.none c none) Set.univ (bodyAt0 t) fun _ =>
          iprop(Phi m c (t.val + 1) ∗ (dats m 0 c).owesAt () t.castSucc
            ∗ Post m c (0 : Fin 13) t
            ∗ Post m c (1 : Fin 13) t
            ∗ Post m c (2 : Fin 13) t
            ∗ Post m c (3 : Fin 13) t
            ∗ Post m c (4 : Fin 13) t
            ∗ Post m c (5 : Fin 13) t
            ∗ Post m c (6 : Fin 13) t
            ∗ Post m c (7 : Fin 13) t
            ∗ Post m c (8 : Fin 13) t
            ∗ Post m c (9 : Fin 13) t
            ∗ Post m c (10 : Fin 13) t
            ∗ Post m c (11 : Fin 13) t
            ∗ Post m c (12 : Fin 13) t) := by
  simp only [before_0, before_1, before_2, before_3, before_4, before_5, before_6, before_7, before_8]
  unfold Phi
  iintro ⟨⟨%h, %hh, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  obtain rfl := hh (by omega)
  iapply (step_keys (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (fun hc => absurd ((cond1_iff t).mp hc) (by omega)) ((cond2_iff t).mpr (by omega)) (fun hc => absurd ((cond3_iff t).mp hc) (by omega)) ((cond4_iff t).mpr (by omega)) (fun hc => absurd ((cond5_iff t).mp hc) (by omega)) ((cond6_iff t).mpr (by omega))
    (hRow m c (t.val / 16)) (X0_2 m c t) (iblk m c 5 t) (iblk m c 6 t) (iblk m c 7 t) (iblk m c 8 t) _)
  isplitl [HS]; · iapply rep_of_owns; iexact HS
  isplitl [H2]; · iapply rep_of_owns; iexact H2
  isplitl [H5]; · iapply rep_of_owns; iexact H5
  isplitl [H6]; · iapply rep_of_owns; iexact H6
  isplitl [H7]; · iapply rep_of_owns; iexact H7
  isplitl [H8]; · iapply rep_of_owns; iexact H8
  isplitl [H9]
  · icases H9 with ⟨%d, H9⟩; iexists _; iexact H9
  isplitl [H11]
  · icases H11 with ⟨%d, H11⟩; iexists _; iexact H11
  iintro ⟨HS, H2, H5, H6, H7, H8, H9, H11⟩
  isplitl [HS HR]
  · iexists _; isplitr; swap
    · isplitl [HS]; · iapply owns_of_rep; iexact HS
      iexact HR
    · ipureintro; intro _; rw [show (t.val + 1) / 16 = t.val / 16 from by omega]
  isplitl [Ho]; · iexact Ho
  isplitl [H0]
  · iapply (post_of_owns m c (0 : Fin 13) t rfl _ rfl); iexact H0
  isplitl [H1]
  · iapply (post_of_owns m c (1 : Fin 13) t rfl _ rfl); iexact H1
  isplitl [H2]
  · iapply (post_of_owns m c (2 : Fin 13) t rfl _ rfl); iapply owns_of_rep; iexact H2
  isplitl [H3]
  · iapply (post_of_owns m c (3 : Fin 13) t rfl _ rfl); iexact H3
  isplitl [H4]
  · iapply (post_of_owns m c (4 : Fin 13) t rfl _ rfl); iexact H4
  isplitl [H5]
  · iapply (post_of_owns m c (5 : Fin 13) t rfl _ rfl); iapply owns_of_rep; iexact H5
  isplitl [H6]
  · iapply (post_of_owns m c (6 : Fin 13) t rfl _ rfl); iapply owns_of_rep; iexact H6
  isplitl [H7]
  · iapply (post_of_owns m c (7 : Fin 13) t rfl _ rfl); iapply owns_of_rep; iexact H7
  isplitl [H8]
  · iapply (post_of_owns m c (8 : Fin 13) t rfl _ rfl); iapply owns_of_rep; iexact H8
  isplitl [H9]
  · iapply (post_of_owns m c (9 : Fin 13) t (idle_9 t) (normAt m c t) (mainAt_norm m c t (by omega) (by omega)).symm); iexact H9
  isplitl [H10]
  · iapply (idle_post_10 m c t (by omega)); iexact H10
  isplitl [H11]
  · iapply (post_of_owns m c (11 : Fin 13) t (by rw [idle_11, decide_eq_true ht]; rfl) (keptOut (F := F) (normAt m c t)) (keptRow_at m c t ht)); iexact H11
  iapply (idle_post_12 m c t (by omega)); iexact H12

set_option maxHeartbeats 1000000 in
theorem at_step_rope (c : Dev nD) (t : Fin cfg0.N) (ht : t.val % 16 = 7) :
    iprop(Phi m c t.val ∗ (dats m 0 c).owesAt () t.castSucc
        ∗ (∃ d, owns (c : Thread nD τ) (st0_0 t) fullShare ((dats m 0 c).before (0 : Fin 13) t d))
        ∗ (∃ d, owns (c : Thread nD τ) (st0_1 t) fullShare ((dats m 0 c).before (1 : Fin 13) t d))
        ∗ (∃ d, owns (c : Thread nD τ) (st0_2 t) fullShare ((dats m 0 c).before (2 : Fin 13) t d))
        ∗ (∃ d, owns (c : Thread nD τ) (st0_3 t) fullShare ((dats m 0 c).before (3 : Fin 13) t d))
        ∗ (∃ d, owns (c : Thread nD τ) (st0_4 t) fullShare ((dats m 0 c).before (4 : Fin 13) t d))
        ∗ (∃ d, owns (c : Thread nD τ) (st0_5 t) fullShare ((dats m 0 c).before (5 : Fin 13) t d))
        ∗ (∃ d, owns (c : Thread nD τ) (st0_6 t) fullShare ((dats m 0 c).before (6 : Fin 13) t d))
        ∗ (∃ d, owns (c : Thread nD τ) (st0_7 t) fullShare ((dats m 0 c).before (7 : Fin 13) t d))
        ∗ (∃ d, owns (c : Thread nD τ) (st0_8 t) fullShare ((dats m 0 c).before (8 : Fin 13) t d))
        ∗ (∃ d, owns (c : Thread nD τ) (st0_9 t) fullShare ((dats m 0 c).before (9 : Fin 13) t d))
        ∗ (∃ d, owns (c : Thread nD τ) (st0_10 t) fullShare ((dats m 0 c).before (10 : Fin 13) t d))
        ∗ (∃ d, owns (c : Thread nD τ) (st0_11 t) fullShare ((dats m 0 c).before (11 : Fin 13) t d))
        ∗ (∃ d, owns (c : Thread nD τ) (st0_12 t) fullShare ((dats m 0 c).before (12 : Fin 13) t d)))
      ⊢ wp frame (wpE (defs₀ (F := F)) Variants.none c none) Set.univ (bodyAt0 t) fun _ =>
          iprop(Phi m c (t.val + 1) ∗ (dats m 0 c).owesAt () t.castSucc
            ∗ Post m c (0 : Fin 13) t
            ∗ Post m c (1 : Fin 13) t
            ∗ Post m c (2 : Fin 13) t
            ∗ Post m c (3 : Fin 13) t
            ∗ Post m c (4 : Fin 13) t
            ∗ Post m c (5 : Fin 13) t
            ∗ Post m c (6 : Fin 13) t
            ∗ Post m c (7 : Fin 13) t
            ∗ Post m c (8 : Fin 13) t
            ∗ Post m c (9 : Fin 13) t
            ∗ Post m c (10 : Fin 13) t
            ∗ Post m c (11 : Fin 13) t
            ∗ Post m c (12 : Fin 13) t) := by
  simp only [before_0, before_1, before_2, before_3, before_4, before_5, before_6, before_7, before_8]
  unfold Phi
  iintro ⟨⟨%h, %hh, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  obtain rfl := hh (by omega)
  iapply (step_rope (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (fun hc => absurd ((cond1_iff t).mp hc) (by omega)) ((cond2_iff t).mpr (by omega)) (fun hc => absurd ((cond3_iff t).mp hc) (by omega)) (fun hc => absurd ((cond4_iff t).mp hc) (by omega)) ((cond5_iff t).mpr (by omega)) (fun hc => absurd ((cond6_iff t).mp hc) (by omega))
    (hRow m c (t.val / 16)) (X0_2 m c t) (iblk m c 6 t) (iblk m c 7 t) _)
  isplitl [HS]; · iapply rep_of_owns; iexact HS
  isplitl [H2]; · iapply rep_of_owns; iexact H2
  isplitl [H6]; · iapply rep_of_owns; iexact H6
  isplitl [H7]; · iapply rep_of_owns; iexact H7
  isplitl [H9]
  · icases H9 with ⟨%d, H9⟩; iexists _; iexact H9
  iintro ⟨HS, H2, H6, H7, H9⟩
  isplitl [HS HR]
  · iexists _; isplitr; swap
    · isplitl [HS]; · iapply owns_of_rep; iexact HS
      iexact HR
    · ipureintro; intro _; rw [show (t.val + 1) / 16 = t.val / 16 from by omega]
  isplitl [Ho]; · iexact Ho
  isplitl [H0]
  · iapply (post_of_owns m c (0 : Fin 13) t rfl _ rfl); iexact H0
  isplitl [H1]
  · iapply (post_of_owns m c (1 : Fin 13) t rfl _ rfl); iexact H1
  isplitl [H2]
  · iapply (post_of_owns m c (2 : Fin 13) t rfl _ rfl); iapply owns_of_rep; iexact H2
  isplitl [H3]
  · iapply (post_of_owns m c (3 : Fin 13) t rfl _ rfl); iexact H3
  isplitl [H4]
  · iapply (post_of_owns m c (4 : Fin 13) t rfl _ rfl); iexact H4
  isplitl [H5]
  · iapply (post_of_owns m c (5 : Fin 13) t rfl _ rfl); iexact H5
  isplitl [H6]
  · iapply (post_of_owns m c (6 : Fin 13) t rfl _ rfl); iapply owns_of_rep; iexact H6
  isplitl [H7]
  · iapply (post_of_owns m c (7 : Fin 13) t rfl _ rfl); iapply owns_of_rep; iexact H7
  isplitl [H8]
  · iapply (post_of_owns m c (8 : Fin 13) t rfl _ rfl); iexact H8
  isplitl [H9]
  · iapply (post_of_owns m c (9 : Fin 13) t (idle_9 t) (ropeAt m c t) (mainAt_rope m c t ht).symm); iexact H9
  isplitl [H10]
  · iapply (idle_post_10 m c t (by omega)); iexact H10
  isplitl [H11]
  · iapply (idle_post_11 m c t (by omega)); iexact H11
  iapply (idle_post_12 m c t (by omega)); iexact H12

set_option maxHeartbeats 1000000 in
theorem at_step_high (c : Dev nD) (t : Fin cfg0.N) (ht : 8 ≤ t.val % 16) :
    iprop(Phi m c t.val ∗ (dats m 0 c).owesAt () t.castSucc
        ∗ (∃ d, owns (c : Thread nD τ) (st0_0 t) fullShare ((dats m 0 c).before (0 : Fin 13) t d))
        ∗ (∃ d, owns (c : Thread nD τ) (st0_1 t) fullShare ((dats m 0 c).before (1 : Fin 13) t d))
        ∗ (∃ d, owns (c : Thread nD τ) (st0_2 t) fullShare ((dats m 0 c).before (2 : Fin 13) t d))
        ∗ (∃ d, owns (c : Thread nD τ) (st0_3 t) fullShare ((dats m 0 c).before (3 : Fin 13) t d))
        ∗ (∃ d, owns (c : Thread nD τ) (st0_4 t) fullShare ((dats m 0 c).before (4 : Fin 13) t d))
        ∗ (∃ d, owns (c : Thread nD τ) (st0_5 t) fullShare ((dats m 0 c).before (5 : Fin 13) t d))
        ∗ (∃ d, owns (c : Thread nD τ) (st0_6 t) fullShare ((dats m 0 c).before (6 : Fin 13) t d))
        ∗ (∃ d, owns (c : Thread nD τ) (st0_7 t) fullShare ((dats m 0 c).before (7 : Fin 13) t d))
        ∗ (∃ d, owns (c : Thread nD τ) (st0_8 t) fullShare ((dats m 0 c).before (8 : Fin 13) t d))
        ∗ (∃ d, owns (c : Thread nD τ) (st0_9 t) fullShare ((dats m 0 c).before (9 : Fin 13) t d))
        ∗ (∃ d, owns (c : Thread nD τ) (st0_10 t) fullShare ((dats m 0 c).before (10 : Fin 13) t d))
        ∗ (∃ d, owns (c : Thread nD τ) (st0_11 t) fullShare ((dats m 0 c).before (11 : Fin 13) t d))
        ∗ (∃ d, owns (c : Thread nD τ) (st0_12 t) fullShare ((dats m 0 c).before (12 : Fin 13) t d)))
      ⊢ wp frame (wpE (defs₀ (F := F)) Variants.none c none) Set.univ (bodyAt0 t) fun _ =>
          iprop(Phi m c (t.val + 1) ∗ (dats m 0 c).owesAt () t.castSucc
            ∗ Post m c (0 : Fin 13) t
            ∗ Post m c (1 : Fin 13) t
            ∗ Post m c (2 : Fin 13) t
            ∗ Post m c (3 : Fin 13) t
            ∗ Post m c (4 : Fin 13) t
            ∗ Post m c (5 : Fin 13) t
            ∗ Post m c (6 : Fin 13) t
            ∗ Post m c (7 : Fin 13) t
            ∗ Post m c (8 : Fin 13) t
            ∗ Post m c (9 : Fin 13) t
            ∗ Post m c (10 : Fin 13) t
            ∗ Post m c (11 : Fin 13) t
            ∗ Post m c (12 : Fin 13) t) := by
  simp only [before_0, before_1, before_2, before_3, before_4, before_5, before_6, before_7, before_8]
  unfold Phi
  iintro ⟨⟨%h, %hh, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  obtain rfl := hh (by omega)
  iapply (step_high (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (fun hc => absurd ((cond1_iff t).mp hc) (by omega)) (fun hc => absurd ((cond2_iff t).mp hc) (by omega)) ((cond3_iff t).mpr (by omega)) (fun hc => absurd ((cond4_iff t).mp hc) (by omega)) (fun hc => absurd ((cond5_iff t).mp hc) (by omega)) (fun hc => absurd ((cond6_iff t).mp hc) (by omega))
    (hRow m c (t.val / 16)) (iblk m c 3 t) _)
  isplitl [HS]; · iapply rep_of_owns; iexact HS
  isplitl [H3]; · iapply rep_of_owns; iexact H3
  isplitl [H9]
  · icases H9 with ⟨%d, H9⟩; iexists _; iexact H9
  iintro ⟨HS, H3, H9⟩
  isplitl [HS HR]
  · iexists _; isplitr; swap
    · isplitl [HS]; · iapply owns_of_rep; iexact HS
      iexact HR
    · ipureintro; intro _; rw [show (t.val + 1) / 16 = t.val / 16 from by omega]
  isplitl [Ho]; · iexact Ho
  isplitl [H0]
  · iapply (post_of_owns m c (0 : Fin 13) t rfl _ rfl); iexact H0
  isplitl [H1]
  · iapply (post_of_owns m c (1 : Fin 13) t rfl _ rfl); iexact H1
  isplitl [H2]
  · iapply (post_of_owns m c (2 : Fin 13) t rfl _ rfl); iexact H2
  isplitl [H3]
  · iapply (post_of_owns m c (3 : Fin 13) t rfl _ rfl); iapply owns_of_rep; iexact H3
  isplitl [H4]
  · iapply (post_of_owns m c (4 : Fin 13) t rfl _ rfl); iexact H4
  isplitl [H5]
  · iapply (post_of_owns m c (5 : Fin 13) t rfl _ rfl); iexact H5
  isplitl [H6]
  · iapply (post_of_owns m c (6 : Fin 13) t rfl _ rfl); iexact H6
  isplitl [H7]
  · iapply (post_of_owns m c (7 : Fin 13) t rfl _ rfl); iexact H7
  isplitl [H8]
  · iapply (post_of_owns m c (8 : Fin 13) t rfl _ rfl); iexact H8
  isplitl [H9]
  · iapply (post_of_owns m c (9 : Fin 13) t (idle_9 t) (highAt m c t) (mainAt_high m c t ht).symm); iexact H9
  isplitl [H10]
  · iapply (idle_post_10 m c t (by omega)); iexact H10
  isplitl [H11]
  · iapply (idle_post_11 m c t (by omega)); iexact H11
  iapply (idle_post_12 m c t (by omega)); iexact H12

/-- One point under the pipeline. -/
theorem at_point (c : Dev nD) (t : Fin cfg0.N) :
    iprop(Phi m c t.val ∗ (dats m 0 c).owesAt () t.castSucc
        ∗ (∃ d, owns (c : Thread nD τ) (st0_0 t) fullShare ((dats m 0 c).before (0 : Fin 13) t d))
        ∗ (∃ d, owns (c : Thread nD τ) (st0_1 t) fullShare ((dats m 0 c).before (1 : Fin 13) t d))
        ∗ (∃ d, owns (c : Thread nD τ) (st0_2 t) fullShare ((dats m 0 c).before (2 : Fin 13) t d))
        ∗ (∃ d, owns (c : Thread nD τ) (st0_3 t) fullShare ((dats m 0 c).before (3 : Fin 13) t d))
        ∗ (∃ d, owns (c : Thread nD τ) (st0_4 t) fullShare ((dats m 0 c).before (4 : Fin 13) t d))
        ∗ (∃ d, owns (c : Thread nD τ) (st0_5 t) fullShare ((dats m 0 c).before (5 : Fin 13) t d))
        ∗ (∃ d, owns (c : Thread nD τ) (st0_6 t) fullShare ((dats m 0 c).before (6 : Fin 13) t d))
        ∗ (∃ d, owns (c : Thread nD τ) (st0_7 t) fullShare ((dats m 0 c).before (7 : Fin 13) t d))
        ∗ (∃ d, owns (c : Thread nD τ) (st0_8 t) fullShare ((dats m 0 c).before (8 : Fin 13) t d))
        ∗ (∃ d, owns (c : Thread nD τ) (st0_9 t) fullShare ((dats m 0 c).before (9 : Fin 13) t d))
        ∗ (∃ d, owns (c : Thread nD τ) (st0_10 t) fullShare ((dats m 0 c).before (10 : Fin 13) t d))
        ∗ (∃ d, owns (c : Thread nD τ) (st0_11 t) fullShare ((dats m 0 c).before (11 : Fin 13) t d))
        ∗ (∃ d, owns (c : Thread nD τ) (st0_12 t) fullShare ((dats m 0 c).before (12 : Fin 13) t d)))
      ⊢ wp frame (wpE (defs₀ (F := F)) Variants.none c none) Set.univ (bodyAt0 t) fun _ =>
          iprop(Phi m c (t.val + 1) ∗ (dats m 0 c).owesAt () t.castSucc
            ∗ Post m c (0 : Fin 13) t
            ∗ Post m c (1 : Fin 13) t
            ∗ Post m c (2 : Fin 13) t
            ∗ Post m c (3 : Fin 13) t
            ∗ Post m c (4 : Fin 13) t
            ∗ Post m c (5 : Fin 13) t
            ∗ Post m c (6 : Fin 13) t
            ∗ Post m c (7 : Fin 13) t
            ∗ Post m c (8 : Fin 13) t
            ∗ Post m c (9 : Fin 13) t
            ∗ Post m c (10 : Fin 13) t
            ∗ Post m c (11 : Fin 13) t
            ∗ Post m c (12 : Fin 13) t) := by
  have h16 := Nat.mod_lt t.val (show 0 < 16 by decide)
  by_cases h0 : t.val % 16 = 0
  · exact at_step_first m c t h0
  by_cases h1 : t.val % 16 < 4
  · exact at_step_low m c t ⟨by omega, h1⟩
  by_cases h2 : t.val % 16 < 6
  · exact at_step_norm m c t ⟨by omega, h2⟩
  by_cases h3 : t.val % 16 = 6
  · exact at_step_keys m c t h3
  by_cases h4 : t.val % 16 = 7
  · exact at_step_rope m c t h4
  exact at_step_high m c t (by omega)

set_option maxHeartbeats 4000000 in
/-- The pipeline's obligation, at every point. -/
theorem body_obligation (c : Dev nD) : BodyObligation (dats m 0 c) (defs₀ (F := F)) Variants.none () Set.univ := fun t => by
  rw [bigSep_W0, bigSep_W0]
  exact at_point m c t

end Cert.InprojIdeal.Projections

end
-- ==== Proof.Inproj.Run.lean ====
/- The launch of the projections' pallas_call: what its four result arrays hold at the end. -/
module

public import proofs.«01_k».proof.Proof.Inproj.Launch

@[expose] public section

set_option maxRecDepth 16384
set_option Elab.async false

noncomputable section

namespace Cert.InprojIdeal.Projections

open Cert.InprojIdeal Cert.InprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- At the end: every array holds what the pipeline computes, all counters zero. -/
def Ends : PUnit × MemSt nD τ sig (Elt F) → Prop := fun r =>
  Pipeline.FramePost cfgs (dats m) 0 (V m) r ∧ r.2.sem = fun _ => 0

theorem raw_of_owns (c : Dev nD) (h : S1024x2048.Idx → Elt F .bf16) :
    (owns (c : Thread nD τ) (Memref.whole cc0_scratch0) fullShare h : sProp 𝕄)
      ⊢ (((c : Thread nD τ).loc cc0_scratch0) ↦{fullShare} (h : Buf (Elt F) ((c : Thread nD τ).loc cc0_scratch0)) : sProp 𝕄) := by
  rw [owns_whole]

set_option backward.isDefEq.respectTransparency.types false in
set_option maxHeartbeats 4000000 in
theorem run_main : θ_run (defs (F := F)) (onTc (τ := τ) (main (F := F))) ⟨m, fun _ => 0, ρ⟩ (Ends m) :=
  Pipeline.θ_run_frame_track_shared cfgs (dats m) 0 launch₀0 defs₀ Variants.none m ρ main
    (hbody := fun c => (body_obligation m c).loose) (hq := fun _ _ _ => rfl) (howed := fun _ _ => rfl)
    (V := V m) (hmain := hmain m Variants.none) (hA := fun _ _ => rfl)
    (hin := fun c => by
      show Pipeline.ΦA spec0 c ⊢ Phi m c 0
      unfold Pipeline.ΦA Phi
      rw [scopedRest0_eq]
      iintro ⟨⟨%f, H⟩, HR⟩
      iexists f; isplitr; swap
      · isplitl [H]
        · rw [owns_whole]; iexact H
        iexact HR
      · ipureintro; intro h; exact absurd rfl h)
    (hout := fun c => by
      show Phi m c (Fin.last cfg0.N).val ⊢ Pipeline.ΦA spec0 c
      unfold Pipeline.ΦA Phi
      rw [scopedRest0_eq]
      iintro ⟨%h, -, HS, HR⟩
      isplitl [HS]
      · iexists h
        iapply (raw_of_owns c h); iexact HS
      iexact HR)
    (Q' := Ends m) (hQ' := fun _ h => h)

end Cert.InprojIdeal.Projections

end
-- ==== Proof.Inproj.Spec.lean ====
/- The projections' four results as formulas over the extended reals. -/
module

public import Idealize.ShloMosaic.Lib.Pointwise

@[expose] public section

noncomputable section

namespace Cert.Projections

open Idealize.ShloMosaic

/-- The activations, a vector of weights, the projection's weights, and a head's weights. -/
abbrev Acts := (⟨3, ![4, 2048, 2048]⟩ : Shape).Idx → EReal
abbrev Gain := (⟨1, ![2048]⟩ : Shape).Idx → EReal
abbrev Mat := (⟨2, ![2048, 8264]⟩ : Shape).Idx → EReal
abbrev Head := (⟨1, ![64]⟩ : Shape).Idx → EReal

/-- Position `p` of sequence `b` after the root-mean-square norm, at channel `k`. -/
def scaled (X : Acts) (g : Gain) (b : Fin 4) (p k : Fin 2048) : EReal :=
  X (ix3 b p k) * Ideal.rsqrt (Ideal.div (∑ j : Fin 2048, X (ix3 b p j) * X (ix3 b p j)) (Ideal.ofBits .f32 0x45000000#32)
      + Ideal.ofBits .f32 0x358637BD#32) * g (ix1 k)

/-- The column of the projection's weights numbered `n`. -/
def col (n : ℕ) : Fin 8264 := ⟨n % 8264, Nat.mod_lt _ (by decide)⟩

/-- The projection's column `n`. -/
def pr (X : Acts) (g : Gain) (W : Mat) (b : Fin 4) (p : Fin 2048) (n : ℕ) : EReal :=
  ∑ k : Fin 2048, scaled X g b p k * W (ix2 k (col n))

/-- The angle of position `p` at frequency `f`. -/
def angle (p f : ℕ) : EReal :=
  (((BitVec.ofNat 32 p).toInt : ℝ) : EReal)
    * Ideal.pow (Ideal.ofBits .f32 0x461C4000#32) (Ideal.div (-(((BitVec.ofNat 32 f).toInt : ℝ) : EReal)) (Ideal.ofBits .f32 0x42000000#32))

/-- A row of heads of sixty-four columns, each rotated by position `p`'s angles. -/
def rot (f : ℕ → EReal) (p n : ℕ) : EReal :=
  f n * Ideal.cos (angle p (n % 32))
    + f (if n % 64 < 32 then n + 32 else n - 32) * (if n % 64 < 32 then -(Ideal.sin (angle p (n % 32))) else Ideal.sin (angle p (n % 32)))

/-- A row of heads of sixty-four columns, each after its root-mean-square norm. -/
def hnorm (f : ℕ → EReal) (q : ℕ → EReal) (n : ℕ) : EReal :=
  f n * Ideal.rsqrt (Ideal.div (∑ j : Fin 64, f (n / 64 * 64 + j.val) * f (n / 64 * 64 + j.val)) (Ideal.ofBits .f32 0x42800000#32)
      + Ideal.ofBits .f32 0x358637BD#32) * q (n % 64)

/-- A head's weights by number. -/
def lane (q : Head) (n : ℕ) : EReal := q (ix1 ⟨n % 64, Nat.mod_lt _ (by decide)⟩)

variable (X : Acts) (g : Gain) (W : Mat) (q k : Head)

/-- The first result's row. -/
def mainCol (b : Fin 4) (p : Fin 2048) (n : ℕ) : EReal :=
  if n < 2048 then pr X g W b p n
  else if n < 3072 then rot (hnorm (pr X g W b p) (lane q)) p.val n * Ideal.ofBits .f32 0x3E000000#32
  else if n < 3328 then rot (hnorm (pr X g W b p) (lane k)) p.val n
  else if n < 3584 then pr X g W b p n
  else if n < 4096 then rot (pr X g W b p) p.val n
  else pr X g W b p (n + 72)

/-- The second result's row. -/
def smallCol (b : Fin 4) (p : Fin 2048) (l : ℕ) : EReal :=
  if l < 64 then rot (pr X g W b p) p.val (4096 + l) else if l < 72 then pr X g W b p (4096 + l) else 0

/-- The fourth result's row. -/
def keyCol (b : Fin 4) (p : Fin 2048) (l : ℕ) : EReal :=
  if l < 64 then rot (pr X g W b p) p.val (4096 + l) else 0

/-- The sequence and the position of a row. -/
def seqOf (R : Fin 8192) : Fin 4 := ⟨R.val / 2048, by have := R.isLt; omega⟩
def posOf (R : Fin 8192) : Fin 2048 := ⟨R.val % 2048, Nat.mod_lt _ (by decide)⟩

/-! ## Finite values -/

/-- A finite number. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy; exact ⟨a * b, (EReal.coe_mul a b).symm⟩

theorem Real'.add {x y : EReal} (hx : Real' x) (hy : Real' y) : Real' (x + y) := by
  obtain ⟨a, rfl⟩ := hx; obtain ⟨b, rfl⟩ := hy; exact ⟨a + b, (EReal.coe_add a b).symm⟩

theorem Real'.sum {ι : Type} (s : Finset ι) {f : ι → EReal} (h : ∀ i ∈ s, Real' (f i)) : Real' (∑ i ∈ s, f i) := by
  induction s using Finset.cons_induction with
  | empty => exact ⟨0, by simp⟩
  | cons a s ha ih =>
    rw [Finset.sum_cons]
    exact (h a (Finset.mem_cons_self a s)).add (ih fun i hi => h i (Finset.mem_cons_of_mem hi))

theorem Real'.rsqrt {x : EReal} (hx : Real' x) (h0 : 0 < x) : Real' (Ideal.rsqrt x) := by
  obtain ⟨r, rfl⟩ := hx
  have hr : 0 < r := EReal.coe_pos.1 h0
  exact ⟨(Real.sqrt r)⁻¹, by rw [Ideal.rsqrt_coe, if_neg (not_lt.2 hr.le), if_neg hr.ne']⟩

theorem sub_self' {x : EReal} (hx : Real' x) : x - x = 0 := by
  obtain ⟨r, rfl⟩ := hx
  rw [← EReal.coe_sub, sub_self, EReal.coe_zero]

theorem bits_2048 : Ideal.ofBits .f32 0x45000000#32 = ((2048 : ℝ) : EReal) := by
  simp [Ideal.ofBits, Ideal.ieee, -EReal.coe_mul]; norm_num

theorem bits_64 : Ideal.ofBits .f32 0x42800000#32 = ((64 : ℝ) : EReal) := by
  simp [Ideal.ofBits, Ideal.ieee, -EReal.coe_mul]; norm_num

theorem bits_inv64 : Ideal.ofBits .f32 0x3C800000#32 = (((64 : ℝ)⁻¹ : ℝ) : EReal) := by
  simp [Ideal.ofBits, Ideal.ieee, -EReal.coe_mul]; norm_num

theorem bits_eps : ∃ r : ℝ, 0 < r ∧ Ideal.ofBits .f32 0x358637BD#32 = (r : EReal) := by
  refine ⟨(8388608 + 407485 : ℝ) * 2 ^ (-43 : ℤ), by positivity, ?_⟩
  simp [Ideal.ofBits, Ideal.ieee, -EReal.coe_mul]; norm_num

/-- Dividing by sixty-four is multiplying by its inverse. -/
theorem div_64 (x : EReal) : Ideal.div x (Ideal.ofBits .f32 0x42800000#32) = x * Ideal.ofBits .f32 0x3C800000#32 := by
  rw [bits_64, bits_inv64]
  unfold Ideal.div
  rw [if_neg (by norm_num), EReal.coe_inv]

theorem Real'.sq_nonneg {x : EReal} (hx : Real' x) : 0 ≤ x * x := by
  obtain ⟨r, rfl⟩ := hx
  rw [← EReal.coe_mul]
  exact EReal.coe_nonneg.2 (mul_self_nonneg r)

theorem Real'.cases (x : EReal) : Real' x ∨ x * x = ⊤ := by
  induction x using EReal.rec with
  | bot => exact Or.inr EReal.bot_mul_bot
  | top => exact Or.inr EReal.top_mul_top
  | coe r => exact Or.inl ⟨r, rfl⟩

/-- A square is not negative. -/
theorem sq_nonneg' (x : EReal) : 0 ≤ x * x := by
  rcases Real'.cases x with h | h
  · exact h.sq_nonneg
  · rw [h]; exact le_top

/-- The normalised activations are finite, whatever the activations are: a row with an infinite entry becomes zero. -/
theorem scaled_real (hg : ∀ i, Real' (g i)) (b : Fin 4) (p k : Fin 2048) : Real' (scaled X g b p k) := by
  obtain ⟨e, he, hb⟩ := bits_eps
  unfold scaled
  rw [hb, bits_2048]
  unfold Ideal.div
  rw [if_neg (by norm_num), ← EReal.coe_inv]
  by_cases hx : ∀ j : Fin 2048, Real' (X (ix3 b p j))
  · refine ((hx k).mul (Real'.rsqrt ?_ ?_)).mul (hg _)
    · exact ((Real'.sum _ fun i _ => (hx i).mul (hx i)).mul ⟨_, rfl⟩).add ⟨e, rfl⟩
    · refine lt_of_lt_of_le (EReal.coe_pos.2 he) (le_add_of_nonneg_left ?_)
      exact EReal.mul_nonneg (Finset.sum_nonneg fun i _ => (hx i).sq_nonneg) (EReal.coe_nonneg.2 (by norm_num))
  · obtain ⟨j, hj⟩ := not_forall.1 hx
    have ht : (∑ i : Fin 2048, X (ix3 b p i) * X (ix3 b p i)) = ⊤ := by
      refine top_le_iff.1 ?_
      rw [← (Real'.cases _).resolve_left hj]
      exact Finset.single_le_sum (f := fun i => X (ix3 b p i) * X (ix3 b p i)) (fun i _ => sq_nonneg' _) (Finset.mem_univ j)
    rw [ht, EReal.top_mul_coe_of_pos (by norm_num), EReal.top_add_coe, Ideal.rsqrt_top, mul_zero, zero_mul]
    exact ⟨0, rfl⟩

theorem pr_real (hg : ∀ i, Real' (g i)) (hW : ∀ (k : Fin 2048) (n : Fin 8264), 2048 ≤ n.val → n.val < 3328 → Real' (W (ix2 k n)))
    (b : Fin 4) (p : Fin 2048) (n : ℕ) (h1 : 2048 ≤ n) (h2 : n < 3328) : Real' (pr X g W b p n) :=
  Real'.sum _ fun k _ => (scaled_real X g hg b p k).mul (hW k (col n)
    (by show 2048 ≤ n % 8264; omega) (by show n % 8264 < 3328; omega))

end Cert.Projections

end
-- ==== Proof.Inproj.Host.lean ====
/- What the projections' host code hands the kernel, read at an index. -/
module

public import proofs.«01_k».proof.Proof.Gen.InprojIdeal.Frame
public import proofs.«01_k».proof.Proof.Inproj.Spec
public import Idealize.ShloMosaic.Lib.StableHlo.RunRead
public import Idealize.ShloMosaic.Lib.WordCmp

@[expose] public section

set_option maxRecDepth 16384
set_option maxHeartbeats 1000000

noncomputable section

namespace Cert.InprojIdeal.Projections

open Cert.InprojIdeal Cert.InprojIdeal.Gen Cert.Projections
open Idealize.ShloMosaic Idealize.ShloMosaic.TcCoe Idealize.ShloMosaic.StableHlo

variable (m : (ℓ : Loc nD τ sig) → Buf (Elt Ideal) ℓ) (c : Dev nD)

/-- The arguments. -/
abbrev Wt : Mat := m ((c : Thread nD τ).loc main_arg2)
abbrev Xt : Acts := m ((c : Thread nD τ).loc main_arg0)
abbrev Gt : Gain := m ((c : Thread nD τ).loc main_arg1)
abbrev Qt : Head := m ((c : Thread nD τ).loc main_arg3)
abbrev Kt : Head := m ((c : Thread nD τ).loc main_arg4)

theorem host_x (R : Fin 8192) (k : Fin 2048) : V m c main_v0 (ix2 R k) = Xt m c (ix3 (seqOf R) (posOf R) k) := by
  unfold V
  after_reads_simp
  pointwise
  rfl

theorem host_g (k : Fin 2048) : V m c main_v62 (ix2 (0 : Fin 1) k) = Gt m c (ix1 k) := by
  unfold V
  after_reads_simp
  pointwise

theorem host_w (n : Fin 8264) (k : Fin 2048) : V m c main_v1 (ix2 n k) = Wt m c (ix2 k n) := by
  unfold V
  after_reads_simp
  pointwise

theorem host_small (l : Fin 128) (k : Fin 2048) : V m c main_v4 (ix2 l k)
    = (if l.val < 72 then Wt m c (ix2 k (col (4096 + l.val))) else 0 : EReal) := by
  unfold V
  after_reads_simp
  pointwise
  by_cases h : l.val < 72
  · rw [dif_pos h, if_pos h]
    refine congrArg (Wt m c) (congrArg (ix2 k) (Fin.ext ?_))
    show 4096 + l.val = (4096 + l.val) % 8264
    omega
  · rw [dif_neg h, if_neg h]

theorem host_cos (p : Fin 2048) (l : Fin 128) : V m c main_v58 (ix2 p l) = Ideal.cos (angle p.val (l.val % 32)) := by
  unfold V
  after_reads_simp
  simp only [Matrix.cons_val]
  after_reads_simp
  pointwise
  have hl := l.isLt
  split_ifs
  · rw [show l.val % 32 = l.val by omega]; rfl
  · rw [show l.val % 32 = l.val - 32 by omega]; rfl
  · rw [show l.val % 32 = l.val - 32 - 32 by omega]; rfl
  · rw [show l.val % 32 = l.val - 32 - 32 - 32 by omega]; rfl

theorem host_sin (p : Fin 2048) (l : Fin 128) : V m c main_v61 (ix2 p l)
    = (if l.val % 64 < 32 then -(Ideal.sin (angle p.val (l.val % 32))) else Ideal.sin (angle p.val (l.val % 32)) : EReal) := by
  unfold V
  after_reads_simp
  simp only [Matrix.cons_val]
  after_reads_simp
  pointwise
  have hl := l.isLt
  split_ifs <;> first
    | omega
    | (rw [show l.val % 32 = l.val by omega]; rfl)
    | (rw [show l.val % 32 = l.val - 32 by omega]; rfl)
    | (rw [show l.val % 32 = l.val - 32 - 32 by omega]; rfl)
    | (rw [show l.val % 32 = l.val - 32 - 32 - 32 by omega]; rfl)

/-- The host's division of a lane's number by sixty-four, towards minus infinity. -/
theorem head_word : ∀ i : Fin 512, select (andi (cmpi .ne (signi (iotaInDim S512 32 0)) (broadcastInDim S512 ![] bcast_S_S512 (signi (constantI S_ 32 64#32))))
    (cmpi .ne (Host.remsi (iotaInDim S512 32 0) (broadcastInDim S512 ![] bcast_S_S512 (constantI S_ 32 64#32))) (broadcastInDim S512 ![] bcast_S_S512 (constantI S_ 32 0#32))))
    (subi (Host.divsi (iotaInDim S512 32 0) (broadcastInDim S512 ![] bcast_S_S512 (constantI S_ 32 64#32))) (broadcastInDim S512 ![] bcast_S_S512 (constantI S_ 32 1#32)))
    (Host.divsi (iotaInDim S512 32 0) (broadcastInDim S512 ![] bcast_S_S512 (constantI S_ 32 64#32))) (ix1 i) = BitVec.ofNat 32 (i.val / 64) := by
  decide +kernel

theorem host_head (i : Fin 512) : (V m c main_v36 (ix1 i) : BitVec 32) = BitVec.ofNat 32 (i.val / 64) := by
  refine Eq.trans ?_ (head_word i)
  unfold V
  after_reads_simp
  rfl

theorem host_bd (i j : Fin 512) : V m c main_v42 (ix2 i j) = (if i.val / 64 = j.val / 64 then 1 else 0 : EReal) := by
  have hi := host_head m c i
  have hj := host_head m c j
  revert hi hj
  unfold V
  after_reads_simp
  pointwise
  intro hi hj
  rw [hi, hj, WordCmp.cmpi_eq_eq]
  clear hi hj
  have h1 := i.isLt
  have h2 := j.isLt
  by_cases h : i.val / 64 = j.val / 64
  · rw [if_pos h, h]
    show (((BitVec.ofBool (decide (BitVec.ofNat 32 (j.val / 64) = BitVec.ofNat 32 (j.val / 64)))).toNat : ℝ) : EReal) = 1
    simp
  · rw [if_neg h]
    have hn : BitVec.ofNat 32 (i.val / 64) ≠ BitVec.ofNat 32 (j.val / 64) := fun he => h (by
      have := congrArg BitVec.toNat he
      rw [BitVec.toNat_ofNat, BitVec.toNat_ofNat] at this
      omega)
    show (((BitVec.ofBool (decide (BitVec.ofNat 32 (i.val / 64) = BitVec.ofNat 32 (j.val / 64)))).toNat : ℝ) : EReal) = 0
    simp [hn]

theorem host_gain (n : Fin 8192) : V m c main_v34 (ix2 (0 : Fin 8) n) = (if 2048 ≤ n.val ∧ n.val < 3072 then lane (Qt m c) n.val else if 3072 ≤ n.val ∧ n.val < 3328 then lane (Kt m c) n.val else 1 : EReal) := by
  unfold V
  after_reads_simp
  pointwise
  after_reads_simp
  pointwise
  after_reads_simp
  pointwise
  unfold lane
  by_cases h1 : n.val < 2048
  · exact (dif_pos h1).trans ((if_neg (by omega)).trans (if_neg (by omega))).symm
  refine (dif_neg h1).trans ?_
  by_cases h2 : n.val - 2048 < 1024
  · refine (dif_pos h2).trans (Eq.trans ?_ (if_pos (by omega)).symm)
    refine congrArg (Qt m c) (congrArg ix1 (Fin.ext ?_))
    show (n.val - 2048) % 64 = n.val % 64
    omega
  refine (dif_neg h2).trans (Eq.trans ?_ (if_neg (by omega)).symm)
  by_cases h3 : n.val - 2048 - 1024 < 256
  · refine (dif_pos h3).trans (Eq.trans ?_ (if_pos (by omega)).symm)
    refine congrArg (Kt m c) (congrArg ix1 (Fin.ext ?_))
    show (n.val - 2048 - 1024) % 64 = n.val % 64
    omega
  exact (dif_neg h3).trans (if_neg (by omega)).symm

theorem host_norm (n : Fin 8192) : V m c main_v34 (ix2 (1 : Fin 8) n) = (if 2048 ≤ n.val ∧ n.val < 3328 then 1 else 0 : EReal) := by
  unfold V
  after_reads_simp
  pointwise
  after_reads_simp
  pointwise
  after_reads_simp
  pointwise
  split_ifs <;> first | rfl | omega

theorem host_rope (n : Fin 8192) : V m c main_v34 (ix2 (2 : Fin 8) n) = (if (2048 ≤ n.val ∧ n.val < 3328) ∨ (3584 ≤ n.val ∧ n.val < 4096) then 1 else 0 : EReal) := by
  unfold V
  after_reads_simp
  pointwise
  after_reads_simp
  pointwise
  after_reads_simp
  pointwise
  split_ifs <;> first | rfl | omega

theorem host_post (n : Fin 8192) : V m c main_v34 (ix2 (3 : Fin 8) n) = (if 2048 ≤ n.val ∧ n.val < 3072 then Ideal.ofBits .f32 0x3E000000#32 else 1 : EReal) := by
  unfold V
  after_reads_simp
  pointwise
  after_reads_simp
  pointwise
  after_reads_simp
  pointwise
  split_ifs <;> first | rfl | omega

end Cert.InprojIdeal.Projections

end
-- ==== Proof.Inproj.Pay.lean ====
/- The projections' kernel's computations on one block, read at an index. -/
module

public import proofs.«01_k».proof.Proof.Inproj.Body
public import proofs.«01_k».proof.Proof.Inproj.Spec

@[expose] public section

set_option maxRecDepth 16384
set_option maxHeartbeats 1000000

noncomputable section

namespace Cert.InprojIdeal.Projections

open Cert.InprojIdeal Cert.InprojIdeal.Gen Cert.Projections
open Idealize.ShloMosaic

/-- The lanes in the first half of their head. -/
theorem mask_apply : ∀ l : Fin 128, k0_pay32 (ix2 0 l) = BitVec.ofBool (decide (l.val % 64 < 32)) := by decide +kernel

/-- Two heads' lanes of a block, rotated. -/
def part (y cs sn : FVec Ideal S1024x128 .f32) : FVec Ideal S1024x128 .f32 :=
  addf (mulf y cs) (mulf (select (broadcastTo S1024x128 (shapeCast S1x128 k0_pay32 shapeCasts_S1x128_S1x128) broadcasts_S1x128_S1024x128)
    (dynamicRotate 1 96#32 none y rotates_S1024x128_d1) (dynamicRotate 1 32#32 none y rotates_S1024x128_d1)) sn)

theorem part_apply (y cs sn : FVec Ideal S1024x128 .f32) (r : Fin 1024) (l : Fin 128) (f : ℕ → EReal) (p o : ℕ)
    (ho : o % 128 = 0) (hy : ∀ j : Fin 128, y (ix2 r j) = f (o + j.val)) (hc : ∀ j : Fin 128, cs (ix2 r j) = Ideal.cos (angle p (j.val % 32)))
    (hs : ∀ j : Fin 128, sn (ix2 r j) = (if j.val % 64 < 32 then -(Ideal.sin (angle p (j.val % 32))) else Ideal.sin (angle p (j.val % 32)) : EReal)) :
    part y cs sn (ix2 r l) = rot f p (o + l.val) := by
  unfold part
  pointwise
  rw [mask_apply, hy, hc, hs, hy, hy]
  unfold rot
  have hl := l.isLt
  rw [show (o + l.val) % 32 = l.val % 32 by omega, show (o + l.val) % 64 = l.val % 64 by omega]
  by_cases h : l.val % 64 < 32
  · simp only [h, decide_true, if_true]
    rw [show o + l.val + 32 = o + (l.val + 128 - 96) % 128 by omega]
    rfl
  · simp only [h, decide_false, if_false]
    rw [show o + l.val - 32 = o + (l.val + 128 - 32) % 128 by omega]
    rfl

/-- Four blocks of two heads side by side. -/
theorem cat_apply (v0 v1 v2 v3 : FVec Ideal S1024x128 .f32) (r : Fin 1024) (l : Fin 512) (f : ℕ → EReal) (o : ℕ)
    (h0 : ∀ j : Fin 128, v0 (ix2 r j) = f (o + j.val)) (h1 : ∀ j : Fin 128, v1 (ix2 r j) = f (o + 128 + j.val))
    (h2 : ∀ j : Fin 128, v2 (ix2 r j) = f (o + 256 + j.val)) (h3 : ∀ j : Fin 128, v3 (ix2 r j) = f (o + 384 + j.val)) :
    concatenate S1024x512 1 [⟨S1024x128, v0⟩, ⟨S1024x128, v1⟩, ⟨S1024x128, v2⟩, ⟨S1024x128, v3⟩]
      concatenates_S1024x128_S1024x128_S1024x128_S1024x128_S1024x512_d1 (ix2 r l) = f (o + l.val) := by
  pointwise
  have hl := l.isLt
  simp only [h0, h1, h2, h3]
  split_ifs
  · rfl
  · exact congrArg f (by omega)
  · exact congrArg f (by omega)
  · exact congrArg f (by omega)

theorem rows_apply (x : FVec Ideal S1024x2048 .f32) (g : FVec Ideal S1x2048 .f32) (X : Acts) (G : Gain) (b : Fin 4) (p : Fin 2048)
    (r : Fin 1024) (hx : ∀ k, x (ix2 r k) = X (ix3 b p k)) (hg : ∀ k, g (ix2 0 k) = G (ix1 k)) (k : Fin 2048) :
    rowsOf (F := Ideal) x g (ix2 r k) = scaled X G b p k := by
  unfold rowsOf k0_pay10 k0_pay9
  pointwise
  simp only [hx, hg, zero_add]
  rfl

theorem low_apply (h : FVec Ideal S1024x2048 .bf16) (w : FVec Ideal S512x2048 .f32) (X : Acts) (G : Gain) (W : Mat) (b : Fin 4) (p : Fin 2048)
    (r : Fin 1024) (l : Fin 512) (n : ℕ) (hh : ∀ k, h (ix2 r k) = scaled X G b p k) (hw : ∀ k, w (ix2 l k) = W (ix2 k (col n))) :
    lowProd (F := Ideal) h w (ix2 r l) = pr X G W b p n := by
  unfold lowProd k0_pay4
  pointwise
  simp only [hh, hw, zero_add]
  rfl

theorem high_apply (h : FVec Ideal S1024x2048 .bf16) (w : FVec Ideal S512x2048 .f32) (X : Acts) (G : Gain) (W : Mat) (b : Fin 4) (p : Fin 2048)
    (r : Fin 1024) (l : Fin 512) (n : ℕ) (hh : ∀ k, h (ix2 r k) = scaled X G b p k) (hw : ∀ k, w (ix2 l k) = W (ix2 k (col n))) :
    highProd (F := Ideal) h w (ix2 r l) = pr X G W b p n := by
  unfold highProd k0_pay5
  pointwise
  simp only [hh, hw, zero_add]
  rfl

/-- The small projections' lane `l`, before any rotation. -/
def smallPr (X : Acts) (G : Gain) (W : Mat) (b : Fin 4) (p : Fin 2048) (n : ℕ) : EReal := if n < 4168 then pr X G W b p n else 0

theorem smallPr_apply (x : FVec Ideal S1024x2048 .f32) (g : FVec Ideal S1x2048 .f32) (u : FVec Ideal S128x2048 .f32) (X : Acts) (G : Gain)
    (W : Mat) (b : Fin 4) (p : Fin 2048) (r : Fin 1024) (hx : ∀ k, x (ix2 r k) = X (ix3 b p k)) (hg : ∀ k, g (ix2 0 k) = G (ix1 k))
    (hu : ∀ (l : Fin 128) k, u (ix2 l k) = (if l.val < 72 then W (ix2 k (col (4096 + l.val))) else 0 : EReal)) (l : Fin 128) :
    k0_pay11 (F := Ideal) x g u (ix2 r l) = smallPr X G W b p (4096 + l.val) := by
  have hr := rows_apply x g X G b p r hx hg
  unfold rowsOf k0_pay10 at hr
  revert hr
  unfold k0_pay11
  pointwise
  intro hr
  simp only [hr, hu, zero_add]
  unfold smallPr
  by_cases h : l.val < 72
  · simp only [h, if_true]
    rw [if_pos (by omega)]
    rfl
  · simp only [h, if_false, mul_zero, Finset.sum_const_zero]
    rw [if_neg (by omega)]

theorem rot_smallPr (X : Acts) (G : Gain) (W : Mat) (b : Fin 4) (p : Fin 2048) (l : ℕ) (h : l < 64) :
    rot (smallPr X G W b p) p.val (4096 + l) = rot (pr X G W b p) p.val (4096 + l) := by
  unfold rot smallPr
  rw [if_pos (show 4096 + l < 4168 by omega), if_pos (show (if (4096 + l) % 64 < 32 then 4096 + l + 32 else 4096 + l - 32) < 4168 by
    split_ifs <;> omega)]

theorem small_part (v : FVec Ideal S1024x128 .f32) (cs sn : FVec Ideal S1024x128 .f32) :
    k0_pay1 (F := Ideal) v (k0_pay12 cs) (k0_pay13 sn) lanes k0_pay14 k0_pay15 k0_pay16 = part v (k0_pay12 cs) (k0_pay13 sn) := rfl

theorem lane_lt : ∀ l : Fin 128, IntOp.cmpi .slt (laneIx (ix2 0 l)) 64#32 = BitVec.ofBool (decide (l.val < 64)) := by decide +kernel

section
variable (x : FVec Ideal S1024x2048 .f32) (g : FVec Ideal S1x2048 .f32) (u : FVec Ideal S128x2048 .f32) (cs sn : FVec Ideal S1024x128 .f32)
    (X : Acts) (G : Gain) (W : Mat) (b : Fin 4) (p : Fin 2048) (r : Fin 1024) (hx : ∀ k, x (ix2 r k) = X (ix3 b p k)) (hg : ∀ k, g (ix2 0 k) = G (ix1 k))
    (hu : ∀ (l : Fin 128) k, u (ix2 l k) = (if l.val < 72 then W (ix2 k (col (4096 + l.val))) else 0 : EReal))
    (hc : ∀ j : Fin 128, cs (ix2 r j) = Ideal.cos (angle p.val (j.val % 32)))
    (hs : ∀ j : Fin 128, sn (ix2 r j) = (if j.val % 64 < 32 then -(Ideal.sin (angle p.val (j.val % 32))) else Ideal.sin (angle p.val (j.val % 32)) : EReal))
    (l : Fin 128)

include hx hg hu hc hs in
theorem small_rot : part (k0_pay11 (F := Ideal) x g u) (k0_pay12 cs) (k0_pay13 sn) (ix2 r l) = rot (smallPr X G W b p) p.val (4096 + l.val) := by
  refine part_apply _ _ _ r l _ p.val 4096 rfl (smallPr_apply x g u X G W b p r hx hg hu) (fun j => ?_) (fun j => ?_)
  · unfold k0_pay12; pointwise; exact hc j
  · unfold k0_pay13; pointwise; exact hs j

include hx hg hu hc hs in
theorem small_apply : smallOut (F := Ideal) x g u cs sn (ix2 r l) = smallCol X G W b p l.val := by
  have h1 := small_rot x g u cs sn X G W b p r hx hg hu hc hs l
  have h2 := smallPr_apply x g u X G W b p r hx hg hu l
  unfold smallOut k0_pay2
  rw [small_part]
  generalize part (k0_pay11 (F := Ideal) x g u) (k0_pay12 cs) (k0_pay13 sn) = A at h1 ⊢
  generalize k0_pay11 (F := Ideal) x g u = B at h2 ⊢
  have h3 := lane_lt l
  revert h3
  generalize laneIx = J
  intro h3
  pointwise
  rw [h3, h1, h2]
  unfold smallCol
  by_cases h : l.val < 64
  · rw [if_pos h, ← rot_smallPr X G W b p _ h]
    simp only [h, decide_true]
    rfl
  · rw [if_neg h]
    simp only [h, decide_false]
    show smallPr X G W b p (4096 + l.val) = _
    unfold smallPr
    exact if_congr (by omega) rfl rfl

include hx hg hu hc hs in
theorem key_apply : keyOut (F := Ideal) x g u cs sn (ix2 r l) = keyCol X G W b p l.val := by
  have h1 := small_rot x g u cs sn X G W b p r hx hg hu hc hs l
  unfold keyOut k0_pay3
  rw [small_part]
  generalize part (k0_pay11 (F := Ideal) x g u) (k0_pay12 cs) (k0_pay13 sn) = A at h1 ⊢
  have h3 := lane_lt l
  revert h3
  generalize laneIx = J
  intro h3
  pointwise
  rw [h3, h1]
  unfold keyCol
  by_cases h : l.val < 64
  · rw [if_pos h, ← rot_smallPr X G W b p _ h]
    simp only [h, decide_true]
    rfl
  · rw [if_neg h]
    simp only [h, decide_false]
    rfl
end

/-- The sum over the lanes of a block that share a head. -/
theorem head_sum (f : Fin 512 → EReal) (l : Fin 512) :
    (∑ x : Fin 512, f x * (if x.val / 64 = l.val / 64 then 1 else 0 : EReal))
      = ∑ j : Fin 64, f ⟨l.val / 64 * 64 + j.val, by have := l.isLt; have := j.isLt; omega⟩ := by
  symm
  refine Finset.sum_of_injOn (fun j : Fin 64 => (⟨l.val / 64 * 64 + j.val, by have := l.isLt; have := j.isLt; omega⟩ : Fin 512)) ?_ ?_ ?_ ?_
  · intro a _ b _ h
    have := congrArg Fin.val h
    exact Fin.ext (Nat.add_left_cancel this)
  · intro a _; exact Finset.mem_coe.2 (Finset.mem_univ _)
  · intro i _ hi
    rw [if_neg, mul_zero]
    intro h
    refine hi ⟨⟨i.val % 64, Nat.mod_lt _ (by decide)⟩, Finset.mem_coe.2 (Finset.mem_univ _), Fin.ext ?_⟩
    show l.val / 64 * 64 + i.val % 64 = i.val
    omega
  · intro j _
    have := j.isLt
    rw [if_pos (show (l.val / 64 * 64 + j.val) / 64 = l.val / 64 by omega), mul_one]

theorem normed_apply (y : FVec Ideal S1024x512 .f32) (q : FVec Ideal S8x512 .f32) (d : FVec Ideal S512x512 .bf16) (r : Fin 1024) (l : Fin 512)
    (f : ℕ → EReal) (o : ℕ) (hf : 0 < q (ix2 1 l) → ∀ j : Fin 512, j.val / 64 = l.val / 64 → Real' (f (o + j.val))) (ho : o % 64 = 0) (hy : ∀ j : Fin 512, y (ix2 r j) = f (o + j.val))
    (hd : ∀ i j : Fin 512, d (ix2 i j) = (if i.val / 64 = j.val / 64 then 1 else 0 : EReal)) :
    k0_pay19 (F := Ideal) y q d d (ix2 r l) = (if 0 < q (ix2 1 l) then hnorm f (fun _ => q (ix2 0 l)) (o + l.val) else f (o + l.val) : EReal) := by
  unfold k0_pay19 k0_pay17
  pointwise
  by_cases hq : 0 < q (ix2 1 l)
  swap
  · rw [if_neg hq, if_neg hq, hy]
  have e2 : (∑ x : Fin 512, (y (ix2 r x) * y (ix2 r x) - y (ix2 r x) * y (ix2 r x)) * d (ix2 x l) : EReal) = 0 :=
    Finset.sum_eq_zero fun x _ => by
      rw [hy, hd]
      by_cases hx : x.val / 64 = l.val / 64
      · rw [sub_self' ((hf hq x hx).mul (hf hq x hx)), zero_mul]
      · rw [if_neg hx, mul_zero]
  rw [e2, add_zero]
  simp only [hy, hd]
  rw [head_sum (fun x => f (o + x.val) * f (o + x.val)) l]
  unfold hnorm
  rw [div_64]
  have hl := l.isLt
  have e : ∀ j : Fin 64, (o + l.val) / 64 * 64 + j.val = o + (l.val / 64 * 64 + j.val) := fun j => by omega
  simp only [e]

section
variable (z : FVec Ideal S1024x512 .f32) (cs sn : FVec Ideal S1024x128 .f32) (r : Fin 1024) (l : Fin 512) (f : ℕ → EReal) (p o : ℕ) (ho : o % 128 = 0)
    (hz : ∀ j : Fin 512, z (ix2 r j) = f (o + j.val)) (hc : ∀ j : Fin 128, cs (ix2 r j) = Ideal.cos (angle p (j.val % 32)))
    (hs : ∀ j : Fin 128, sn (ix2 r j) = (if j.val % 64 < 32 then -(Ideal.sin (angle p (j.val % 32))) else Ideal.sin (angle p (j.val % 32)) : EReal))

/-- A block of eight heads, each rotated. -/
def turned : FVec Ideal S1024x512 .f32 :=
  concatenate S1024x512 1 [⟨S1024x128, part (extractStridedSlice S1024x128 ![0, 0] z slices_S1024x512_o0_0_S1024x128) cs sn⟩,
    ⟨S1024x128, part (extractStridedSlice S1024x128 ![0, 128] z slices_S1024x512_o0_128_S1024x128) cs sn⟩,
    ⟨S1024x128, part (extractStridedSlice S1024x128 ![0, 256] z slices_S1024x512_o0_256_S1024x128) cs sn⟩,
    ⟨S1024x128, part (extractStridedSlice S1024x128 ![0, 384] z slices_S1024x512_o0_384_S1024x128) cs sn⟩]
    concatenates_S1024x128_S1024x128_S1024x128_S1024x128_S1024x512_d1

include ho hz hc hs in
theorem turned_apply : turned z cs sn (ix2 r l) = rot f p (o + l.val) := by
  unfold turned
  refine cat_apply _ _ _ _ r l (rot f p) o (fun j => ?_) (fun j => ?_) (fun j => ?_) (fun j => ?_)
  · refine part_apply _ cs sn r j f p o ho (fun j => ?_) hc hs
    pointwise
    exact hz _
  · refine part_apply _ cs sn r j f p (o + 128) (by omega) (fun j => ?_) hc hs
    pointwise
    exact (hz _).trans (congrArg f (by show o + (128 + j.val) = _; omega))
  · refine part_apply _ cs sn r j f p (o + 256) (by omega) (fun j => ?_) hc hs
    pointwise
    exact (hz _).trans (congrArg f (by show o + (256 + j.val) = _; omega))
  · refine part_apply _ cs sn r j f p (o + 384) (by omega) (fun j => ?_) hc hs
    pointwise
    exact (hz _).trans (congrArg f (by show o + (384 + j.val) = _; omega))

include ho hz hc hs in
theorem rope_apply : ropeOut (F := Ideal) z cs sn (ix2 r l) = rot f p (o + l.val) := by
  have e : ropeOut (F := Ideal) z cs sn = turned (k0_pay29 z) (k0_pay30 cs) (k0_pay31 sn) := rfl
  rw [e]
  refine turned_apply _ _ _ r l f p o ho (fun j => ?_) (fun j => ?_) (fun j => ?_)
  · unfold k0_pay29; pointwise; exact hz j
  · unfold k0_pay30; pointwise; exact hc j
  · unfold k0_pay31; pointwise; exact hs j
end

theorem scaled_part (z : FVec Ideal S1024x512 .f32) (v27 : FVec Ideal S1x512 .f32) (v54 : IVec S1x512 1) (cs sn : FVec Ideal S1024x128 .f32) :
    k0_pay6 (F := Ideal) v27 z v54 cs sn (k0_pay23 laneIx 64#32 0#32) (k0_pay24 z cs sn laneIx 64#32 0#32)
      (k0_pay25 z cs sn laneIx 64#32 0#32) (k0_pay26 z cs sn laneIx 64#32 0#32) (k0_pay27 z) (k0_pay28 z) 32#32
      = mulf (select (broadcastTo S1024x512 (shapeCast S1x512 v54 shapeCasts_S1x512_S1x512) broadcasts_S1x512_S1024x512) (turned z cs sn) z)
          (broadcastTo S1024x512 v27 broadcasts_S1x512_S1024x512) := rfl

/-- The block of heads normed, rotated and scaled: `z` is the row after the norm. -/
theorem norm_apply (y : FVec Ideal S1024x512 .f32) (q : FVec Ideal S8x512 .f32) (d : FVec Ideal S512x512 .bf16) (cs sn : FVec Ideal S1024x128 .f32)
    (r : Fin 1024) (l : Fin 512) (f z : ℕ → EReal) (p o : ℕ)
    (hf : ∀ l : Fin 512, 0 < q (ix2 1 l) → ∀ j : Fin 512, j.val / 64 = l.val / 64 → Real' (f (o + j.val))) (ho : o % 128 = 0)
    (hy : ∀ j : Fin 512, y (ix2 r j) = f (o + j.val))
    (hd : ∀ i j : Fin 512, d (ix2 i j) = (if i.val / 64 = j.val / 64 then 1 else 0 : EReal))
    (hc : ∀ j : Fin 128, cs (ix2 r j) = Ideal.cos (angle p (j.val % 32)))
    (hs : ∀ j : Fin 128, sn (ix2 r j) = (if j.val % 64 < 32 then -(Ideal.sin (angle p (j.val % 32))) else Ideal.sin (angle p (j.val % 32)) : EReal))
    (hz : ∀ j : Fin 512, z (o + j.val) = (if 0 < q (ix2 1 j) then hnorm f (fun _ => q (ix2 0 j)) (o + j.val) else f (o + j.val) : EReal)) :
    normOut (F := Ideal) y q d cs sn (ix2 r l)
      = ((if 0 < q (ix2 2 l) then rot z p (o + l.val) else z (o + l.val)) * q (ix2 3 l) : EReal) := by
  have hn : ∀ j : Fin 512, k0_pay19 (F := Ideal) y q d d (ix2 r j) = z (o + j.val) := fun j =>
    (normed_apply y q d r j f o (hf j) (by omega) hy hd).trans (hz j).symm
  have hl := hn l
  have ht : turned (k0_pay19 (F := Ideal) y q d d) (k0_pay21 cs) (k0_pay22 sn) (ix2 r l) = rot z p (o + l.val) := by
    refine turned_apply _ _ _ r l z p o ho hn (fun j => ?_) (fun j => ?_)
    · unfold k0_pay21; pointwise; exact hc j
    · unfold k0_pay22; pointwise; exact hs j
  unfold normOut
  rw [scaled_part]
  generalize turned (k0_pay19 (F := Ideal) y q d d) (k0_pay21 cs) (k0_pay22 sn) = A at ht ⊢
  generalize k0_pay19 (F := Ideal) y q d d = B at hl ⊢
  unfold k0_pay18 k0_pay20 k0_pay17
  pointwise
  rw [ht, hl]

theorem kept_apply (y : FVec Ideal S1024x512 .f32) (r : Fin 1024) (l : Fin 512) : keptOut (F := Ideal) y (ix2 r l) = y (ix2 r l) := by
  unfold keptOut k0_pay8
  pointwise

end Cert.InprojIdeal.Projections

end
-- ==== Proof.Inproj.Blocks.lean ====
/- The blocks of the projections' pallas_call, read at an index of their arrays. -/
module

public import proofs.«01_k».proof.Proof.Inproj.Dat
public import proofs.«01_k».proof.Proof.Inproj.Host
public import proofs.«01_k».proof.Proof.Inproj.Pay
public import Idealize.ShloMosaic.Lib.Pipeline.Value
public import Idealize.ShloMosaic.Lib.Pipeline.ValueKit.Geometry

@[expose] public section

set_option maxRecDepth 16384

noncomputable section

namespace Cert.InprojIdeal.Projections

open Cert.InprojIdeal Cert.InprojIdeal.Gen Cert.Projections
open Idealize.ShloMosaic
open Idealize.ShloMosaic.TcCoe
open Idealize.SL.Sem
open Idealize.ShloMosaic.Pipeline (Dat Cfg Window)

variable (m : (ℓ : Loc nD τ sig) → Buf (Elt Ideal) ℓ) (c : Dev nD)

theorem ix_0 : ∀ t : Fin cfg0.N, win0_0.index t 0 = t.val / 16 ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = min (t.val % 16) 7 ∧ win0_2.index t 1 = 0 := by decide +kernel
theorem ix_3 : ∀ t : Fin cfg0.N, win0_3.index t 0 = 4168 + (t.val % 16 - 8) * 512 ∧ win0_3.index t 1 = 0 := by decide +kernel
theorem ix_4 : ∀ t : Fin cfg0.N, win0_4.index t 0 = 0 ∧ win0_4.index t 1 = 0 := by decide +kernel
theorem ix_5 : ∀ t : Fin cfg0.N, win0_5.index t 0 = 0 ∧ win0_5.index t 1 = t.val % 16 := by decide +kernel
theorem ix_6 : ∀ t : Fin cfg0.N, win0_6.index t 0 = t.val / 16 % 2 ∧ win0_6.index t 1 = 0 := by decide +kernel
theorem ix_7 : ∀ t : Fin cfg0.N, win0_7.index t 0 = t.val / 16 % 2 ∧ win0_7.index t 1 = 0 := by decide +kernel
theorem ix_8 : ∀ t : Fin cfg0.N, win0_8.index t 0 = 0 ∧ win0_8.index t 1 = 0 := by decide +kernel
theorem ix_9 : ∀ t : Fin cfg0.N, win0_9.index t 0 = t.val / 16 ∧ win0_9.index t 1 = t.val % 16 := by decide +kernel
theorem ix_10 : ∀ t : Fin cfg0.N, win0_10.index t 0 = t.val / 16 ∧ win0_10.index t 1 = 0 := by decide +kernel
theorem ix_11 : ∀ t : Fin cfg0.N, win0_11.index t 0 = t.val / 16 ∧ win0_11.index t 1 = 0 := by decide +kernel
theorem ix_12 : ∀ t : Fin cfg0.N, win0_12.index t 0 = t.val / 16 ∧ win0_12.index t 1 = 0 := by decide +kernel

theorem pt_lt (t : Fin cfg0.N) : t.val < 128 := lt_of_lt_of_eq t.isLt N_0

/-- Row `r` of a point's row of blocks, among all rows. -/
def row (t : Fin cfg0.N) (r : Fin 1024) : Fin 8192 := ⟨t.val / 16 * 1024 + r.val, by
  have := pt_lt t
  have := r.isLt
  omega⟩
/-- Column `l` of a point's column of blocks, among all columns. -/
def column (t : Fin cfg0.N) (l : Fin 512) : Fin 8192 := ⟨t.val % 16 * 512 + l.val, by
  have := l.isLt
  omega⟩
/-- Its position in its sequence. -/
theorem pos_row (t : Fin cfg0.N) (r : Fin 1024) : (posOf (row t r)).val = t.val / 16 % 2 * 1024 + r.val := by
  have := r.isLt
  show (t.val / 16 * 1024 + r.val) % 2048 = _
  omega

theorem blk_x (t : Fin cfg0.N) (r : Fin 1024) (k : Fin 2048) : iblk m c (0 : Fin 13) t (ix2 r k) = V m c main_v0 (ix2 (row t r) k) := by
  unfold iblk
  refine congrArg (V m c main_v0) (funext fun b => Fin.ext ?_)
  match b with
  | ⟨0, _⟩ =>
    refine (win0_0.rect_emb_val t (ix2 r k) 0).trans ?_
    exact (congrArg (· * 1024 + _) (ix_0 t).1).trans rfl
  | ⟨1, _⟩ =>
    refine (win0_0.rect_emb_val t (ix2 r k) 1).trans ?_
    exact (congrArg (· * 2048 + _) (ix_0 t).2).trans (Nat.zero_add k.val)

theorem blk_g (t : Fin cfg0.N) (k : Fin 2048) : iblk m c (1 : Fin 13) t (ix2 (0 : Fin 1) k) = V m c main_v62 (ix2 (0 : Fin 1) k) := by
  unfold iblk
  refine congrArg (V m c main_v62) (funext fun b => Fin.ext ?_)
  match b with
  | ⟨0, _⟩ =>
    refine (win0_1.rect_emb_val t (ix2 (0 : Fin 1) k) 0).trans ?_
    exact (congrArg (· * 1 + _) (ix_1 t).1).trans rfl
  | ⟨1, _⟩ =>
    refine (win0_1.rect_emb_val t (ix2 (0 : Fin 1) k) 1).trans ?_
    exact (congrArg (· * 2048 + _) (ix_1 t).2).trans (Nat.zero_add k.val)

theorem blk_high (t : Fin cfg0.N) (l : Fin 512) (k : Fin 2048) : iblk m c (3 : Fin 13) t (ix2 l k) = V m c main_v1 (ix2 (⟨4168 + (t.val % 16 - 8) * 512 + l.val, by have := l.isLt; omega⟩ : Fin 8264) k) := by
  unfold iblk
  refine congrArg (V m c main_v1) (funext fun b => Fin.ext ?_)
  match b with
  | ⟨0, _⟩ =>
    refine (win0_3.rect_emb_val_off t (ix2 l k) 0).trans ?_
    exact (congrArg (· + _) (ix_3 t).1).trans rfl
  | ⟨1, _⟩ =>
    refine (win0_3.rect_emb_val_off t (ix2 l k) 1).trans ?_
    exact (congrArg (· + _) (ix_3 t).2).trans (Nat.zero_add k.val)

theorem blk_small (t : Fin cfg0.N) (l : Fin 128) (k : Fin 2048) : iblk m c (4 : Fin 13) t (ix2 l k) = V m c main_v4 (ix2 l k) := by
  unfold iblk
  refine congrArg (V m c main_v4) (funext fun b => Fin.ext ?_)
  match b with
  | ⟨0, _⟩ =>
    refine (win0_4.rect_emb_val t (ix2 l k) 0).trans ?_
    exact (congrArg (· * 128 + _) (ix_4 t).1).trans (Nat.zero_add l.val)
  | ⟨1, _⟩ =>
    refine (win0_4.rect_emb_val t (ix2 l k) 1).trans ?_
    exact (congrArg (· * 2048 + _) (ix_4 t).2).trans (Nat.zero_add k.val)

theorem blk_ctl (t : Fin cfg0.N) (i : Fin 8) (l : Fin 512) : iblk m c (5 : Fin 13) t (ix2 i l) = V m c main_v34 (ix2 i (column t l)) := by
  unfold iblk
  refine congrArg (V m c main_v34) (funext fun b => Fin.ext ?_)
  match b with
  | ⟨0, _⟩ =>
    refine (win0_5.rect_emb_val t (ix2 i l) 0).trans ?_
    exact (congrArg (· * 8 + _) (ix_5 t).1).trans (Nat.zero_add i.val)
  | ⟨1, _⟩ =>
    refine (win0_5.rect_emb_val t (ix2 i l) 1).trans ?_
    exact (congrArg (· * 512 + _) (ix_5 t).2).trans rfl

theorem blk_cos (t : Fin cfg0.N) (r : Fin 1024) (l : Fin 128) : iblk m c (6 : Fin 13) t (ix2 r l) = V m c main_v58 (ix2 (posOf (row t r)) l) := by
  unfold iblk
  refine congrArg (V m c main_v58) (funext fun b => Fin.ext ?_)
  match b with
  | ⟨0, _⟩ =>
    refine (win0_6.rect_emb_val t (ix2 r l) 0).trans ?_
    exact (congrArg (· * 1024 + _) (ix_6 t).1).trans (pos_row t r).symm
  | ⟨1, _⟩ =>
    refine (win0_6.rect_emb_val t (ix2 r l) 1).trans ?_
    exact (congrArg (· * 128 + _) (ix_6 t).2).trans (Nat.zero_add l.val)

theorem blk_sin (t : Fin cfg0.N) (r : Fin 1024) (l : Fin 128) : iblk m c (7 : Fin 13) t (ix2 r l) = V m c main_v61 (ix2 (posOf (row t r)) l) := by
  unfold iblk
  refine congrArg (V m c main_v61) (funext fun b => Fin.ext ?_)
  match b with
  | ⟨0, _⟩ =>
    refine (win0_7.rect_emb_val t (ix2 r l) 0).trans ?_
    exact (congrArg (· * 1024 + _) (ix_7 t).1).trans (pos_row t r).symm
  | ⟨1, _⟩ =>
    refine (win0_7.rect_emb_val t (ix2 r l) 1).trans ?_
    exact (congrArg (· * 128 + _) (ix_7 t).2).trans (Nat.zero_add l.val)

theorem blk_bd (t : Fin cfg0.N) (i j : Fin 512) : iblk m c (8 : Fin 13) t (ix2 i j) = V m c main_v42 (ix2 i j) := by
  unfold iblk
  refine congrArg (V m c main_v42) (funext fun b => Fin.ext ?_)
  match b with
  | ⟨0, _⟩ =>
    refine (win0_8.rect_emb_val t (ix2 i j) 0).trans ?_
    exact (congrArg (· * 512 + _) (ix_8 t).1).trans (Nat.zero_add i.val)
  | ⟨1, _⟩ =>
    refine (win0_8.rect_emb_val t (ix2 i j) 1).trans ?_
    exact (congrArg (· * 512 + _) (ix_8 t).2).trans (Nat.zero_add j.val)

theorem blk_low (t : Fin cfg0.N) (l : Fin 512) (k : Fin 2048) : X0_2 m c t (ix2 l k)
    = V m c main_v1 (ix2 (⟨min (t.val % 16) 7 * 512 + l.val, by have := l.isLt; omega⟩ : Fin 8264) k) := by
  unfold X0_2 Window.fill
  rw [dif_pos (moved0_2 t (ix2 l k))]
  unfold iblk
  refine congrArg (V m c main_v1) (funext fun b => Fin.ext ?_)
  match b with
  | ⟨0, _⟩ =>
    refine (win0_2.rect_emb_val t _ 0).trans ?_
    exact (congrArg (· * 512 + l.val) (ix_2 t).1).trans rfl
  | ⟨1, _⟩ =>
    refine (win0_2.rect_emb_val t _ 1).trans ?_
    exact (congrArg (· * 2048 + k.val) (ix_2 t).2).trans (Nat.zero_add k.val)

end Cert.InprojIdeal.Projections

end
-- ==== Proof.Inproj.Value.lean ====
/- The result arrays of the projections' pallas_call over the extended reals. -/
module

public import proofs.«01_k».proof.Proof.Inproj.Blocks

@[expose] public section

set_option maxRecDepth 16384

noncomputable section

namespace Cert.InprojIdeal.Projections

open Cert.InprojIdeal Cert.InprojIdeal.Gen Cert.Projections
open Idealize.ShloMosaic
open Idealize.ShloMosaic.TcCoe
open Idealize.SL.Sem
open Idealize.ShloMosaic.Pipeline (Dat Cfg Window)

variable (m : (ℓ : Loc nD τ sig) → Buf (Elt Ideal) ℓ) (c : Dev nD)

/-! ## One block, at an index -/

theorem pt_row (t : Fin cfg0.N) (j : ℕ) (hj : j < 16) (r : Fin 1024) : row (pt (t.val / 16) j) r = row t r := by
  apply Fin.ext
  have := pt_lt t
  show (16 * (t.val / 16) + j) % 128 / 16 * 1024 + r.val = t.val / 16 * 1024 + r.val
  rw [show (16 * (t.val / 16) + j) % 128 / 16 = t.val / 16 by omega]

/-- The activations' rows of a point, and the norm's weights. -/
theorem x_apply (t : Fin cfg0.N) (r : Fin 1024) (k : Fin 2048) :
    iblk m c (0 : Fin 13) (pt (t.val / 16) 0) (ix2 r k) = Xt m c (ix3 (seqOf (row t r)) (posOf (row t r)) k) := by
  rw [blk_x, pt_row t 0 (by decide), host_x]
theorem g_apply (t : Fin cfg0.N) (k : Fin 2048) : iblk m c (1 : Fin 13) t (ix2 (0 : Fin 1) k) = Gt m c (ix1 k) := by
  rw [blk_g, host_g]

theorem hRow_apply (t : Fin cfg0.N) (r : Fin 1024) (k : Fin 2048) :
    hRow m c (t.val / 16) (ix2 r k) = scaled (Xt m c) (Gt m c) (seqOf (row t r)) (posOf (row t r)) k := by
  unfold hRow
  exact rows_apply _ _ (Xt m c) (Gt m c) _ _ r (fun k => x_apply m c t r k) (fun k => g_apply m c _ k) k

/-- A column of the projection at a row of the point's. -/
abbrev prAt (t : Fin cfg0.N) (r : Fin 1024) : ℕ → EReal := pr (Xt m c) (Gt m c) (Wt m c) (seqOf (row t r)) (posOf (row t r))

theorem lowAt_apply (t : Fin cfg0.N) (ht : t.val % 16 < 8) (r : Fin 1024) (l : Fin 512) :
    lowAt m c t (ix2 r l) = prAt m c t r (t.val % 16 * 512 + l.val) := by
  unfold lowAt
  refine low_apply _ _ (Xt m c) (Gt m c) (Wt m c) _ _ r l _ (fun k => hRow_apply m c t r k) (fun k => ?_)
  rw [blk_low, host_w]
  refine congrArg (Wt m c) (congrArg (ix2 k) (Fin.ext ?_))
  have := l.isLt
  show min (t.val % 16) 7 * 512 + l.val = (t.val % 16 * 512 + l.val) % 8264
  rw [min_eq_left (by omega)]
  omega

theorem highAt_apply (t : Fin cfg0.N) (ht : 8 ≤ t.val % 16) (r : Fin 1024) (l : Fin 512) :
    highAt m c t (ix2 r l) = prAt m c t r (t.val % 16 * 512 + l.val + 72) := by
  unfold highAt
  refine high_apply _ _ (Xt m c) (Gt m c) (Wt m c) _ _ r l _ (fun k => hRow_apply m c t r k) (fun k => ?_)
  rw [blk_high, host_w]
  refine congrArg (Wt m c) (congrArg (ix2 k) (Fin.ext ?_))
  have := l.isLt
  show 4168 + (t.val % 16 - 8) * 512 + l.val = (t.val % 16 * 512 + l.val + 72) % 8264
  omega

theorem cos_apply (t : Fin cfg0.N) (r : Fin 1024) (j : Fin 128) :
    iblk m c (6 : Fin 13) t (ix2 r j) = Ideal.cos (angle (posOf (row t r)).val (j.val % 32)) := by
  rw [blk_cos, host_cos]
theorem sin_apply (t : Fin cfg0.N) (r : Fin 1024) (j : Fin 128) : iblk m c (7 : Fin 13) t (ix2 r j)
    = (if j.val % 64 < 32 then -(Ideal.sin (angle (posOf (row t r)).val (j.val % 32))) else Ideal.sin (angle (posOf (row t r)).val (j.val % 32)) : EReal) := by
  rw [blk_sin, host_sin]

/-- The rows of heads that the second columns of blocks hold, after their norms. -/
def normed (f : ℕ → EReal) (q k : Head) (n : ℕ) : EReal :=
  if 2048 ≤ n ∧ n < 3072 then hnorm f (lane q) n else if 3072 ≤ n ∧ n < 3328 then hnorm f (lane k) n else f n

theorem hnorm_lane (f : ℕ → EReal) (q : Head) (n : ℕ) : hnorm f (fun _ => lane q n) n = hnorm f (lane q) n := by
  unfold hnorm lane
  exact congrArg (_ * q ·) (congrArg ix1 (Fin.ext (Nat.mod_mod n 64).symm))

theorem rot_congr (f g : ℕ → EReal) (p n : ℕ) (h : ∀ i, n / 64 * 64 ≤ i → i < n / 64 * 64 + 64 → f i = g i) : rot f p n = rot g p n := by
  unfold rot
  rw [h n (by omega) (by omega)]
  by_cases hc : n % 64 < 32
  · rw [if_pos hc, h (n + 32) (by omega) (by omega)]
  · rw [if_neg hc, h (n - 32) (by omega) (by omega)]

section
variable (hG : ∀ i, Real' (Gt m c i)) (hW : ∀ (k : Fin 2048) (n : Fin 8264), 2048 ≤ n.val → n.val < 3328 → Real' (Wt m c (ix2 k n)))

include hG hW in
theorem normAt_apply (t : Fin cfg0.N) (h4 : 4 ≤ t.val % 16) (h7 : t.val % 16 < 7) (r : Fin 1024) (l : Fin 512) :
    normAt m c t (ix2 r l) = mainCol (Xt m c) (Gt m c) (Wt m c) (Qt m c) (Kt m c) (seqOf (row t r)) (posOf (row t r)) (t.val % 16 * 512 + l.val) := by
  have hl := l.isLt
  have e := norm_apply (lowAt m c t) (iblk m c (5 : Fin 13) t) (iblk m c (8 : Fin 13) t) (iblk m c (6 : Fin 13) t) (iblk m c (7 : Fin 13) t) r l
    (prAt m c t r) (normed (prAt m c t r) (Qt m c) (Kt m c)) (posOf (row t r)).val (t.val % 16 * 512)
    (fun l hq j hj => by
      rw [blk_ctl, host_norm] at hq
      have hl := l.isLt
      have hj' := j.isLt
      have hc : 2048 ≤ (column t l).val ∧ (column t l).val < 3328 := by
        by_contra hn
        rw [if_neg hn] at hq
        exact lt_irrefl _ hq
      have hc' : 2048 ≤ t.val % 16 * 512 + l.val ∧ t.val % 16 * 512 + l.val < 3328 := hc
      exact pr_real _ _ _ hG hW _ _ _ (by omega) (by omega)) (by omega)
    (fun j => lowAt_apply m c t (by omega) r j)
    (fun i j => (blk_bd m c t i j).trans (host_bd m c i j))
    (fun j => cos_apply m c t r j) (fun j => sin_apply m c t r j) (fun j => by
      have hj := j.isLt
      rw [blk_ctl, blk_ctl, host_norm, host_gain]
      show normed _ _ _ (t.val % 16 * 512 + j.val) = _
      generalize hn : t.val % 16 * 512 + j.val = n
      have hc : (column t j).val = n := hn
      rw [hc]
      unfold normed
      by_cases c1 : 2048 ≤ n ∧ n < 3072
      · rw [if_pos c1, if_pos (show 2048 ≤ n ∧ n < 3328 by omega), if_pos zero_lt_one, if_pos c1]
        exact (hnorm_lane _ _ n).symm
      · rw [if_neg c1, if_neg c1]
        by_cases c2 : 3072 ≤ n ∧ n < 3328
        · rw [if_pos c2, if_pos (show 2048 ≤ n ∧ n < 3328 by omega), if_pos zero_lt_one, if_pos c2]
          exact (hnorm_lane _ _ n).symm
        · rw [if_neg c2, if_neg (show ¬ (2048 ≤ n ∧ n < 3328) by omega), if_neg (lt_irrefl _)])
  unfold normAt
  refine e.trans ?_
  rw [blk_ctl, blk_ctl, host_rope, host_post]
  generalize hn : t.val % 16 * 512 + l.val = n
  have hc : (column t l).val = n := hn
  rw [hc]
  unfold mainCol
  rw [if_neg (show ¬ n < 2048 by omega)]
  by_cases c1 : n < 3072
  · rw [if_pos (show (2048 ≤ n ∧ n < 3328) ∨ (3584 ≤ n ∧ n < 4096) by omega), if_pos zero_lt_one, if_pos (show 2048 ≤ n ∧ n < 3072 by omega), if_pos c1]
    refine congrArg (· * _) (rot_congr _ _ _ n fun i h1 h2 => ?_)
    unfold normed
    rw [if_pos (by omega)]
  rw [if_neg c1, if_neg (show ¬ (2048 ≤ n ∧ n < 3072) by omega), mul_one]
  by_cases c2 : n < 3328
  · rw [if_pos (show (2048 ≤ n ∧ n < 3328) ∨ (3584 ≤ n ∧ n < 4096) by omega), if_pos zero_lt_one, if_pos c2]
    refine rot_congr _ _ _ n fun i h1 h2 => ?_
    unfold normed
    rw [if_neg (by omega), if_pos (by omega)]
  rw [if_neg c2, if_pos (show n < 3584 by omega), if_neg (show ¬ ((2048 ≤ n ∧ n < 3328) ∨ (3584 ≤ n ∧ n < 4096)) by omega), if_neg (lt_irrefl _)]
  unfold normed
  rw [if_neg (by omega), if_neg (by omega)]

theorem ropeAt_apply (t : Fin cfg0.N) (h7 : t.val % 16 = 7) (r : Fin 1024) (l : Fin 512) :
    ropeAt m c t (ix2 r l) = rot (prAt m c t r) (posOf (row t r)).val (t.val % 16 * 512 + l.val) := by
  unfold ropeAt
  exact rope_apply (lowAt m c t) (iblk m c (6 : Fin 13) t) (iblk m c (7 : Fin 13) t) r l (prAt m c t r) (posOf (row t r)).val (t.val % 16 * 512) (by omega)
    (fun j => lowAt_apply m c t (by omega) r j) (fun j => cos_apply m c t r j) (fun j => sin_apply m c t r j)

/-- The four results in the memory `m`, as arrays. -/
def mainRows : S8192x8192.Idx → EReal := fun i =>
  mainCol (Xt m c) (Gt m c) (Wt m c) (Qt m c) (Kt m c) (seqOf (i 0)) (posOf (i 0)) (i 1).val
def smallRows : S8192x128.Idx → EReal := fun i => smallCol (Xt m c) (Gt m c) (Wt m c) (seqOf (i 0)) (posOf (i 0)) (i 1).val
def keptRows : S8192x512.Idx → EReal := fun i =>
  mainCol (Xt m c) (Gt m c) (Wt m c) (Qt m c) (Kt m c) (seqOf (i 0)) (posOf (i 0)) (3072 + (i 1).val)
def keyRows : S8192x128.Idx → EReal := fun i => keyCol (Xt m c) (Gt m c) (Wt m c) (seqOf (i 0)) (posOf (i 0)) (i 1).val

include hG hW in
theorem mainAt_apply (t : Fin cfg0.N) (r : Fin 1024) (l : Fin 512) :
    mainAt m c t (ix2 r l) = mainRows m c (ix2 (row t r) (column t l)) := by
  have hl := l.isLt
  show _ = mainCol (Xt m c) (Gt m c) (Wt m c) (Qt m c) (Kt m c) (seqOf (row t r)) (posOf (row t r)) (t.val % 16 * 512 + l.val)
  by_cases h4 : t.val % 16 < 4
  · rw [mainAt_low m c t h4, lowAt_apply m c t (by omega)]
    exact (if_pos (by omega)).symm
  by_cases h7 : t.val % 16 < 7
  · rw [mainAt_norm m c t h4 h7]
    exact normAt_apply m c hG hW t (by omega) h7 r l
  unfold mainCol
  rw [if_neg (by omega), if_neg (by omega), if_neg (by omega), if_neg (by omega)]
  by_cases h8 : t.val % 16 = 7
  · rw [mainAt_rope m c t h8, ropeAt_apply m c t h8]
    exact (if_pos (by omega)).symm
  · rw [mainAt_high m c t (by omega), highAt_apply m c t (by omega)]
    exact (if_neg (by omega)).symm

theorem smallRow_apply (t : Fin cfg0.N) (r : Fin 1024) (l : Fin 128) :
    smallRow m c (t.val / 16) (ix2 r l) = smallRows m c (ix2 (row t r) l) := by
  unfold smallRow
  refine small_apply _ _ _ _ _ (Xt m c) (Gt m c) (Wt m c) _ _ r (fun k => x_apply m c t r k) (fun k => g_apply m c _ k)
    (fun l k => ?_) (fun j => ?_) (fun j => ?_) l
  · rw [blk_small, host_small]
  · rw [cos_apply, pt_row t 0 (by decide)]
  · rw [sin_apply, pt_row t 0 (by decide)]

theorem keyRow_apply (t : Fin cfg0.N) (r : Fin 1024) (l : Fin 128) :
    keyRow m c (t.val / 16) (ix2 r l) = keyRows m c (ix2 (row t r) l) := by
  unfold keyRow
  refine key_apply _ _ _ _ _ (Xt m c) (Gt m c) (Wt m c) _ _ r (fun k => x_apply m c t r k) (fun k => g_apply m c _ k)
    (fun l k => ?_) (fun j => ?_) (fun j => ?_) l
  · rw [blk_small, host_small]
  · rw [cos_apply, pt_row t 0 (by decide)]
  · rw [sin_apply, pt_row t 0 (by decide)]

include hG hW in
theorem keptRow_apply (t : Fin cfg0.N) (r : Fin 1024) (l : Fin 512) :
    keptRow m c (t.val / 16) (ix2 r l) = keptRows m c (ix2 (row t r) l) := by
  have ht := pt_lt t
  have e : (pt (t.val / 16) 6).val % 16 = 6 := by
    show (16 * (t.val / 16) + 6) % 128 % 16 = 6
    omega
  unfold keptRow
  rw [kept_apply, normAt_apply m c hG hW _ (by omega) (by omega), pt_row t 6 (by decide), e]
  rfl

end

/-! ## The arrays at the end -/

theorem split2 {a b : ℕ} (y : (⟨2, ![a, b]⟩ : Shape).Idx) : ∃ (r : Fin a) (l : Fin b), y = ix2 r l := ⟨y 0, y 1, funext fun d => by
  match d with
  | ⟨0, _⟩ => rfl
  | ⟨1, _⟩ => rfl⟩

theorem flush_9 : ∀ t : Fin cfg0.N, (cfg0.win (9 : Fin 13)).flush t = true := by decide +kernel

section
variable (hG : ∀ i, Real' (Gt m c i)) (hW : ∀ (k : Fin 2048) (n : Fin 8264), 2048 ≤ n.val → n.val < 3328 → Real' (Wt m c (ix2 k n)))

include hG hW in
/-- The first result. -/
theorem final_9 : (dats m 0 c).arrAt (9 : Fin 13) cfg0.N = mainRows m c := by
  refine (dats m 0 c).arrAt_eq_of_emb (9 : Fin 13) _ (fun t _ y => ?_) (fun i => ?_)
  · obtain ⟨r, d, rfl⟩ : ∃ (r : Fin 1024) (d : Fin 512), y = ix2 r d := split2 y
    refine Eq.trans ?_ ((mainAt_apply m c hG hW t r d).trans (congrArg (mainRows m c) (funext fun b => Fin.ext ?_)))
    · rw [after_9]
      rfl
    · match b with
      | ⟨0, _⟩ =>
        refine Eq.symm ((win0_9.rect_emb_val t (ix2 r d) 0).trans ?_)
        exact congrArg (· * 1024 + r.val) (ix_9 t).1
      | ⟨1, _⟩ =>
        refine Eq.symm ((win0_9.rect_emb_val t (ix2 r d) 1).trans ?_)
        exact congrArg (· * 512 + d.val) (ix_9 t).2
  · have h0 : (i 0).val < 8192 := (i 0).isLt
    have h1 : (i 1).val < 8192 := (i 1).isLt
    have ht : (i 0).val / 1024 * 16 + (i 1).val / 512 < cfg0.N := by
      rw [show cfg0.N = 128 from N_0]
      omega
    refine ⟨⟨_, ht⟩, flush_9 _, ?_⟩
    refine (win0_9.emb_mem_blk_iff ⟨_, ht⟩ i).2 (fun b => ?_)
    match b with
    | ⟨0, _⟩ =>
      have e : win0_9.index ⟨_, ht⟩ 0 = (i 0).val / 1024 := (ix_9 ⟨_, ht⟩).1.trans (by
        show ((i 0).val / 1024 * 16 + (i 1).val / 512) / 16 = _
        omega)
      constructor
      · rw [show ((⟨0, _⟩ : Fin 2)) = 0 from rfl, e]
        show (i 0).val / 1024 * 1024 ≤ (i 0).val
        omega
      · rw [show ((⟨0, _⟩ : Fin 2)) = 0 from rfl, e]
        show (i 0).val < (i 0).val / 1024 * 1024 + 1024
        omega
    | ⟨1, _⟩ =>
      have e : win0_9.index ⟨_, ht⟩ 1 = (i 1).val / 512 := (ix_9 ⟨_, ht⟩).2.trans (by
        show ((i 0).val / 1024 * 16 + (i 1).val / 512) % 16 = _
        omega)
      constructor
      · rw [show ((⟨1, _⟩ : Fin 2)) = 1 from rfl, e]
        show (i 1).val / 512 * 512 ≤ (i 1).val
        omega
      · rw [show ((⟨1, _⟩ : Fin 2)) = 1 from rfl, e]
        show (i 1).val < (i 1).val / 512 * 512 + 512
        omega

/-- The second result. -/
theorem final_10 : (dats m 0 c).arrAt (10 : Fin 13) cfg0.N = smallRows m c := by
  refine (dats m 0 c).arrAt_eq_of_emb (10 : Fin 13) _ (fun t _ y => ?_) (fun i => ?_)
  · obtain ⟨r, d, rfl⟩ : ∃ (r : Fin 1024) (d : Fin 128), y = ix2 r d := split2 y
    refine Eq.trans ?_ ((smallRow_apply m c t r d).trans (congrArg (smallRows m c) (funext fun b => Fin.ext ?_)))
    · rw [after_10]
      rfl
    · match b with
      | ⟨0, _⟩ =>
        refine Eq.symm ((win0_10.rect_emb_val t (ix2 r d) 0).trans ?_)
        exact congrArg (· * 1024 + r.val) (ix_10 t).1
      | ⟨1, _⟩ =>
        refine Eq.symm ((win0_10.rect_emb_val t (ix2 r d) 1).trans ?_)
        exact (congrArg (· * 128 + d.val) (ix_10 t).2).trans (Nat.zero_add d.val)
  · have h0 : (i 0).val < 8192 := (i 0).isLt
    have h1 : (i 1).val < 128 := (i 1).isLt
    have ht : (i 0).val / 1024 * 16 + 15 < cfg0.N := by
      rw [show cfg0.N = 128 from N_0]
      omega
    refine ⟨⟨_, ht⟩, (flush0_10 _).mpr (by show ((i 0).val / 1024 * 16 + 15) % 16 = 15; omega), ?_⟩
    refine (win0_10.emb_mem_blk_iff ⟨_, ht⟩ i).2 (fun b => ?_)
    match b with
    | ⟨0, _⟩ =>
      have e : win0_10.index ⟨_, ht⟩ 0 = (i 0).val / 1024 := (ix_10 ⟨_, ht⟩).1.trans (by
        show ((i 0).val / 1024 * 16 + 15) / 16 = _
        omega)
      constructor
      · rw [show ((⟨0, _⟩ : Fin 2)) = 0 from rfl, e]
        show (i 0).val / 1024 * 1024 ≤ (i 0).val
        omega
      · rw [show ((⟨0, _⟩ : Fin 2)) = 0 from rfl, e]
        show (i 0).val < (i 0).val / 1024 * 1024 + 1024
        omega
    | ⟨1, _⟩ =>
      have e : win0_10.index ⟨_, ht⟩ 1 = 0 := (ix_10 ⟨_, ht⟩).2
      constructor
      · rw [show ((⟨1, _⟩ : Fin 2)) = 1 from rfl, e]
        show 0 * 128 ≤ (i 1).val
        omega
      · rw [show ((⟨1, _⟩ : Fin 2)) = 1 from rfl, e]
        show (i 1).val < 0 * 128 + 128
        omega

include hG hW in
/-- The third result. -/
theorem final_11 : (dats m 0 c).arrAt (11 : Fin 13) cfg0.N = keptRows m c := by
  refine (dats m 0 c).arrAt_eq_of_emb (11 : Fin 13) _ (fun t _ y => ?_) (fun i => ?_)
  · obtain ⟨r, d, rfl⟩ : ∃ (r : Fin 1024) (d : Fin 512), y = ix2 r d := split2 y
    refine Eq.trans ?_ ((keptRow_apply m c hG hW t r d).trans (congrArg (keptRows m c) (funext fun b => Fin.ext ?_)))
    · rw [after_11]
      rfl
    · match b with
      | ⟨0, _⟩ =>
        refine Eq.symm ((win0_11.rect_emb_val t (ix2 r d) 0).trans ?_)
        exact congrArg (· * 1024 + r.val) (ix_11 t).1
      | ⟨1, _⟩ =>
        refine Eq.symm ((win0_11.rect_emb_val t (ix2 r d) 1).trans ?_)
        exact (congrArg (· * 512 + d.val) (ix_11 t).2).trans (Nat.zero_add d.val)
  · have h0 : (i 0).val < 8192 := (i 0).isLt
    have h1 : (i 1).val < 512 := (i 1).isLt
    have ht : (i 0).val / 1024 * 16 + 15 < cfg0.N := by
      rw [show cfg0.N = 128 from N_0]
      omega
    refine ⟨⟨_, ht⟩, (flush0_11 _).mpr (by show ((i 0).val / 1024 * 16 + 15) % 16 = 15; omega), ?_⟩
    refine (win0_11.emb_mem_blk_iff ⟨_, ht⟩ i).2 (fun b => ?_)
    match b with
    | ⟨0, _⟩ =>
      have e : win0_11.index ⟨_, ht⟩ 0 = (i 0).val / 1024 := (ix_11 ⟨_, ht⟩).1.trans (by
        show ((i 0).val / 1024 * 16 + 15) / 16 = _
        omega)
      constructor
      · rw [show ((⟨0, _⟩ : Fin 2)) = 0 from rfl, e]
        show (i 0).val / 1024 * 1024 ≤ (i 0).val
        omega
      · rw [show ((⟨0, _⟩ : Fin 2)) = 0 from rfl, e]
        show (i 0).val < (i 0).val / 1024 * 1024 + 1024
        omega
    | ⟨1, _⟩ =>
      have e : win0_11.index ⟨_, ht⟩ 1 = 0 := (ix_11 ⟨_, ht⟩).2
      constructor
      · rw [show ((⟨1, _⟩ : Fin 2)) = 1 from rfl, e]
        show 0 * 512 ≤ (i 1).val
        omega
      · rw [show ((⟨1, _⟩ : Fin 2)) = 1 from rfl, e]
        show (i 1).val < 0 * 512 + 512
        omega

/-- The fourth result. -/
theorem final_12 : (dats m 0 c).arrAt (12 : Fin 13) cfg0.N = keyRows m c := by
  refine (dats m 0 c).arrAt_eq_of_emb (12 : Fin 13) _ (fun t _ y => ?_) (fun i => ?_)
  · obtain ⟨r, d, rfl⟩ : ∃ (r : Fin 1024) (d : Fin 128), y = ix2 r d := split2 y
    refine Eq.trans ?_ ((keyRow_apply m c t r d).trans (congrArg (keyRows m c) (funext fun b => Fin.ext ?_)))
    · rw [after_12]
      rfl
    · match b with
      | ⟨0, _⟩ =>
        refine Eq.symm ((win0_12.rect_emb_val t (ix2 r d) 0).trans ?_)
        exact congrArg (· * 1024 + r.val) (ix_12 t).1
      | ⟨1, _⟩ =>
        refine Eq.symm ((win0_12.rect_emb_val t (ix2 r d) 1).trans ?_)
        exact (congrArg (· * 128 + d.val) (ix_12 t).2).trans (Nat.zero_add d.val)
  · have h0 : (i 0).val < 8192 := (i 0).isLt
    have h1 : (i 1).val < 128 := (i 1).isLt
    have ht : (i 0).val / 1024 * 16 + 15 < cfg0.N := by
      rw [show cfg0.N = 128 from N_0]
      omega
    refine ⟨⟨_, ht⟩, (flush0_12 _).mpr (by show ((i 0).val / 1024 * 16 + 15) % 16 = 15; omega), ?_⟩
    refine (win0_12.emb_mem_blk_iff ⟨_, ht⟩ i).2 (fun b => ?_)
    match b with
    | ⟨0, _⟩ =>
      have e : win0_12.index ⟨_, ht⟩ 0 = (i 0).val / 1024 := (ix_12 ⟨_, ht⟩).1.trans (by
        show ((i 0).val / 1024 * 16 + 15) / 16 = _
        omega)
      constructor
      · rw [show ((⟨0, _⟩ : Fin 2)) = 0 from rfl, e]
        show (i 0).val / 1024 * 1024 ≤ (i 0).val
        omega
      · rw [show ((⟨0, _⟩ : Fin 2)) = 0 from rfl, e]
        show (i 0).val < (i 0).val / 1024 * 1024 + 1024
        omega
    | ⟨1, _⟩ =>
      have e : win0_12.index ⟨_, ht⟩ 1 = 0 := (ix_12 ⟨_, ht⟩).2
      constructor
      · rw [show ((⟨1, _⟩ : Fin 2)) = 1 from rfl, e]
        show 0 * 128 ≤ (i 1).val
        omega
      · rw [show ((⟨1, _⟩ : Fin 2)) = 1 from rfl, e]
        show (i 1).val < 0 * 128 + 128
        omega

end

end Cert.InprojIdeal.Projections

end
-- ==== Proof.Inproj.Ref.lean ====
/- The projections' reference's results as formulas in its arguments. -/
module

public import proofs.«01_k».proof.Proof.Gen.ProjectionsIdeal
public import proofs.«01_k».proof.Proof.Gen.ProjectionsIdeal.Run
public import proofs.«01_k».proof.Proof.Gen.ProjectionsIdeal.Read
public import proofs.«01_k».proof.Proof.Inproj.Spec

@[expose] public section

set_option maxRecDepth 16384
set_option maxHeartbeats 1000000

noncomputable section

namespace Cert.ProjectionsIdeal.Projections

open Cert.ProjectionsIdeal Cert.ProjectionsIdeal.Gen Cert.ProjectionsIdeal.Read Cert.Projections
open Idealize.ShloMosaic

variable (X : Acts) (G : Gain) (W : Mat) (q k : Head)

theorem scaled_stage (b : Fin 4) (p c : Fin 2048) : val_main_v13 (F := Ideal) X G (ix3 b p c) = scaled X G b p c := by
  unfold val_main_v13 val_main_v10 val_main_v9 val_main_v8 val_main_v7 val_main_v5 val_main_v4 val_main_v3 val_main_v2 val_main_v1
    val_main_v6 val_main_v12 val_main_v11 val_main_cst val_main_cst_0 val_main_cst_1
  pointwise
  try simp only [zero_add]
  rfl

/-- The product with the projection's weights. -/
theorem pr_stage (b : Fin 4) (p : Fin 2048) (n : Fin 8264) : val_main_v14 (F := Ideal) X G W (ix3 b p n) = pr X G W b p n.val := by
  have h := scaled_stage X G b p
  unfold val_main_v14
  generalize val_main_v13 (F := Ideal) X G = y at h ⊢
  pointwise
  unfold pr
  refine Finset.sum_congr rfl fun c _ => ?_
  rw [h]
  refine congrArg (scaled X G b p c * W ·) (congrArg (ix2 c) (Fin.ext ?_))
  exact (Nat.mod_eq_of_lt n.isLt).symm

theorem angle_50 (p : Fin 2048) (f : Fin 32) : val_main_v50 (F := Ideal) (ix2 p f) = angle p.val f.val := by
  unfold val_main_v50 val_main_v48 val_main_v49 val_main_v46 val_main_v47 val_main_v45 val_main_v44 val_main_v43 val_main_v42 val_main_v41 val_main_v40
    val_main_v39 val_main_cst_5 val_main_cst_6 val_main_v0
  pointwise
  rfl
theorem angle_93 (p : Fin 2048) (f : Fin 32) : val_main_v93 (F := Ideal) (ix2 p f) = angle p.val f.val := angle_50 p f
theorem angle_123 (p : Fin 2048) (f : Fin 32) : val_main_v123 (F := Ideal) (ix2 p f) = angle p.val f.val := angle_50 p f
theorem angle_153 (p : Fin 2048) (f : Fin 32) : val_main_v153 (F := Ideal) (ix2 p f) = angle p.val f.val := angle_50 p f

/-- The norm of one head, as a sum over its lanes. -/
theorem hnorm_of (f : ℕ → EReal) (q : Head) (o h : ℕ) (d : Fin 64) (ho : o % 64 = 0) :
    f (o + (h * 64 + d.val)) * Ideal.rsqrt (Ideal.div (∑ j : Fin 64, f (o + (h * 64 + j.val)) * f (o + (h * 64 + j.val))) (Ideal.ofBits .f32 0x42800000#32)
      + Ideal.ofBits .f32 0x358637BD#32) * q (ix1 d) = hnorm f (lane q) (o + (h * 64 + d.val)) := by
  unfold hnorm lane
  have hd := d.isLt
  have e : ∀ j : Fin 64, (o + (h * 64 + d.val)) / 64 * 64 + j.val = o + (h * 64 + j.val) := fun j => by omega
  simp only [e]
  exact congrArg (_ * q ·) (congrArg ix1 (Fin.ext (show d.val = (o + (h * 64 + d.val)) % 64 % 64 by omega)))

/-- One lane of a head's rotation. -/
theorem rot_of (f : ℕ → EReal) (p o h : ℕ) (d : Fin 64) (ho : o % 64 = 0) (h1 : d.val < 32) :
    f (o + (h * 64 + d.val)) * Ideal.cos (angle p d.val) - f (o + (h * 64 + (32 + d.val))) * Ideal.sin (angle p d.val)
      = rot f p (o + (h * 64 + d.val)) := by
  unfold rot
  rw [show (o + (h * 64 + d.val)) % 32 = d.val by omega, show (o + (h * 64 + d.val)) % 64 = d.val by omega, if_pos h1, if_pos h1,
    show o + (h * 64 + d.val) + 32 = o + (h * 64 + (32 + d.val)) by omega, mul_neg]
  rfl
theorem rot_of' (f : ℕ → EReal) (p o h : ℕ) (d : Fin 64) (ho : o % 64 = 0) (h1 : ¬ d.val < 32) :
    f (o + (h * 64 + (32 + (d.val - 32)))) * Ideal.cos (angle p (d.val - 32)) + f (o + (h * 64 + (d.val - 32))) * Ideal.sin (angle p (d.val - 32))
      = rot f p (o + (h * 64 + d.val)) := by
  have hd := d.isLt
  unfold rot
  rw [show (o + (h * 64 + d.val)) % 32 = d.val - 32 by omega, show (o + (h * 64 + d.val)) % 64 = d.val by omega, if_neg h1, if_neg h1,
    show o + (h * 64 + d.val) - 32 = o + (h * 64 + (d.val - 32)) by omega, show o + (h * 64 + (32 + (d.val - 32))) = o + (h * 64 + d.val) by omega]

theorem norm_q (b : Fin 4) (p : Fin 2048) (h : Fin 16) (d : Fin 64) : val_main_v38 (F := Ideal) X G W q (ix4 b p h d)
    = hnorm (pr X G W b p) (lane q) (2048 + (h.val * 64 + d.val)) := by
  have hy := pr_stage X G W b p
  unfold val_main_v38 val_main_v35 val_main_v37 val_main_v34 val_main_v36 val_main_v33 val_main_v32 val_main_v30 val_main_v31 val_main_v29 val_main_v28 val_main_v27 val_main_v26 val_main_cst_2 val_main_cst_3 val_main_cst_4 val_main_v25 val_main_v17
  generalize val_main_v14 (F := Ideal) X G W = y at hy ⊢
  pointwise
  simp only [hy]
  try simp only [zero_add]
  exact hnorm_of (pr X G W b p) q 2048 h.val d rfl

theorem norm_k (b : Fin 4) (p : Fin 2048) (h : Fin 4) (d : Fin 64) : val_main_v81 (F := Ideal) X G W k (ix4 b p h d)
    = hnorm (pr X G W b p) (lane k) (3072 + (h.val * 64 + d.val)) := by
  have hy := pr_stage X G W b p
  unfold val_main_v81 val_main_v78 val_main_v80 val_main_v77 val_main_v79 val_main_v76 val_main_v75 val_main_v73 val_main_v74 val_main_v72 val_main_v71 val_main_v70 val_main_v69 val_main_cst_7 val_main_cst_8 val_main_cst_9 val_main_v68 val_main_v18
  generalize val_main_v14 (F := Ideal) X G W = y at hy ⊢
  pointwise
  simp only [hy]
  try simp only [zero_add]
  exact hnorm_of (pr X G W b p) k 3072 h.val d rfl

theorem rot_q (f : ℕ → EReal) (b : Fin 4) (p : Fin 2048) (o : ℕ) (ho : o % 64 = 0)
    (hf : ∀ (h : Fin 16) (d : Fin 64), val_main_v38 (F := Ideal) X G W q (ix4 b p h d) = f (o + (h.val * 64 + d.val)))
    (h : Fin 16) (d : Fin 64) : val_main_v67 (F := Ideal) X G W q (ix4 b p h d) = rot f p.val (o + (h.val * 64 + d.val)) := by
  have ha := angle_50 p
  unfold val_main_v67 val_main_v61 val_main_v66 val_main_v58 val_main_v60 val_main_v63 val_main_v65 val_main_v57 val_main_v59 val_main_v62 val_main_v64 val_main_v55 val_main_v56 val_main_v52 val_main_v54 val_main_v51 val_main_v53
  generalize val_main_v38 (F := Ideal) X G W q = y at hf ⊢
  generalize val_main_v50 (F := Ideal) = a at ha ⊢
  pointwise
  simp only [hf, ha]
  by_cases h1 : d.val < 32
  · exact (dif_pos h1).trans (rot_of f p.val o h.val d ho h1)
  · exact (dif_neg h1).trans (rot_of' f p.val o h.val d ho h1)

theorem rot_k (f : ℕ → EReal) (b : Fin 4) (p : Fin 2048) (o : ℕ) (ho : o % 64 = 0)
    (hf : ∀ (h : Fin 4) (d : Fin 64), val_main_v81 (F := Ideal) X G W k (ix4 b p h d) = f (o + (h.val * 64 + d.val)))
    (h : Fin 4) (d : Fin 64) : val_main_v110 (F := Ideal) X G W k (ix4 b p h d) = rot f p.val (o + (h.val * 64 + d.val)) := by
  have ha := angle_93 p
  unfold val_main_v110 val_main_v104 val_main_v109 val_main_v101 val_main_v103 val_main_v106 val_main_v108 val_main_v100 val_main_v102 val_main_v105 val_main_v107 val_main_v98 val_main_v99 val_main_v95 val_main_v97 val_main_v94 val_main_v96
  generalize val_main_v81 (F := Ideal) X G W k = y at hf ⊢
  generalize val_main_v93 (F := Ideal) = a at ha ⊢
  pointwise
  simp only [hf, ha]
  by_cases h1 : d.val < 32
  · exact (dif_pos h1).trans (rot_of f p.val o h.val d ho h1)
  · exact (dif_neg h1).trans (rot_of' f p.val o h.val d ho h1)

theorem rot_i (f : ℕ → EReal) (b : Fin 4) (p : Fin 2048) (o : ℕ) (ho : o % 64 = 0)
    (hf : ∀ (h : Fin 8) (d : Fin 64), val_main_v111 (F := Ideal) X G W  (ix4 b p h d) = f (o + (h.val * 64 + d.val)))
    (h : Fin 8) (d : Fin 64) : val_main_v140 (F := Ideal) X G W  (ix4 b p h d) = rot f p.val (o + (h.val * 64 + d.val)) := by
  have ha := angle_123 p
  unfold val_main_v140 val_main_v134 val_main_v139 val_main_v131 val_main_v133 val_main_v136 val_main_v138 val_main_v130 val_main_v132 val_main_v135 val_main_v137 val_main_v128 val_main_v129 val_main_v125 val_main_v127 val_main_v124 val_main_v126
  generalize val_main_v111 (F := Ideal) X G W  = y at hf ⊢
  generalize val_main_v123 (F := Ideal) = a at ha ⊢
  pointwise
  simp only [hf, ha]
  by_cases h1 : d.val < 32
  · exact (dif_pos h1).trans (rot_of f p.val o h.val d ho h1)
  · exact (dif_neg h1).trans (rot_of' f p.val o h.val d ho h1)

theorem rot_s (f : ℕ → EReal) (b : Fin 4) (p : Fin 2048) (o : ℕ) (ho : o % 64 = 0)
    (hf : ∀ (h : Fin 1) (d : Fin 64), val_main_v141 (F := Ideal) X G W  (ix4 b p h d) = f (o + (h.val * 64 + d.val)))
    (h : Fin 1) (d : Fin 64) : val_main_v170 (F := Ideal) X G W  (ix4 b p h d) = rot f p.val (o + (h.val * 64 + d.val)) := by
  have ha := angle_153 p
  unfold val_main_v170 val_main_v164 val_main_v169 val_main_v161 val_main_v163 val_main_v166 val_main_v168 val_main_v160 val_main_v162 val_main_v165 val_main_v167 val_main_v158 val_main_v159 val_main_v155 val_main_v157 val_main_v154 val_main_v156
  generalize val_main_v141 (F := Ideal) X G W  = y at hf ⊢
  generalize val_main_v153 (F := Ideal) = a at ha ⊢
  pointwise
  simp only [hf, ha]
  by_cases h1 : d.val < 32
  · exact (dif_pos h1).trans ((rot_of f p.val o 0 d ho h1).trans (congrArg (rot f p.val) (show o + (0 * 64 + d.val) = o + d.val by omega)))
  · exact (dif_neg h1).trans ((rot_of' f p.val o 0 d ho h1).trans (congrArg (rot f p.val) (show o + (0 * 64 + d.val) = o + d.val by omega)))

theorem heads_q (b : Fin 4) (p : Fin 2048) (h : Fin 16) (d : Fin 64) : val_main_v67 (F := Ideal) X G W q (ix4 b p h d)
    = rot (hnorm (pr X G W b p) (lane q)) p.val (2048 + (h.val * 64 + d.val)) := rot_q X G W q _ b p 2048 rfl (norm_q X G W q b p) h d
theorem heads_k (b : Fin 4) (p : Fin 2048) (h : Fin 4) (d : Fin 64) : val_main_v110 (F := Ideal) X G W k (ix4 b p h d)
    = rot (hnorm (pr X G W b p) (lane k)) p.val (3072 + (h.val * 64 + d.val)) := rot_k X G W k _ b p 3072 rfl (norm_k X G W k b p) h d
theorem heads_i (b : Fin 4) (p : Fin 2048) (h : Fin 8) (d : Fin 64) : val_main_v140 (F := Ideal) X G W (ix4 b p h d)
    = rot (pr X G W b p) p.val (3584 + (h.val * 64 + d.val)) := by
  refine rot_i X G W _ b p 3584 rfl (fun h d => ?_) h d
  have hy := pr_stage X G W b p
  unfold val_main_v111 val_main_v20
  generalize val_main_v14 (F := Ideal) X G W = y at hy ⊢
  pointwise
  exact hy _
theorem heads_s (b : Fin 4) (p : Fin 2048) (d : Fin 64) : val_main_v170 (F := Ideal) X G W (ix4 b p (0 : Fin 1) d)
    = rot (pr X G W b p) p.val (4096 + d.val) := by
  refine (rot_s X G W (pr X G W b p) b p 4096 rfl (fun h d => ?_) 0 d).trans (congrArg (rot _ _) (show 4096 + (0 * 64 + d.val) = 4096 + d.val by omega))
  have hy := pr_stage X G W b p
  unfold val_main_v141 val_main_v21
  generalize val_main_v14 (F := Ideal) X G W = y at hy ⊢
  pointwise
  refine (hy _).trans (congrArg (pr X G W b p) ?_)
  rfl

theorem main_stage (R : Fin 8192) (n : Fin 8192) : val_main_v182 (F := Ideal) X G W q k (ix2 R n) = mainCol X G W q k (seqOf R) (posOf R) n.val := by
  have hy := pr_stage X G W (seqOf R) (posOf R)
  have h1 := heads_q X G W q (seqOf R) (posOf R)
  have h2 := heads_k X G W k (seqOf R) (posOf R)
  have h3 := heads_i X G W (seqOf R) (posOf R)
  unfold val_main_v182 val_main_v174 val_main_v175 val_main_v176 val_main_v177 val_main_v178 val_main_v179 val_main_v180 val_main_v181
    val_main_v15 val_main_v16 val_main_v19 val_main_v23 val_main_v24 val_main_v173 val_main_v172 val_main_cst_16
  generalize val_main_v14 (F := Ideal) X G W = y at hy ⊢
  generalize val_main_v67 (F := Ideal) X G W q = y1 at h1 ⊢
  generalize val_main_v110 (F := Ideal) X G W k = y2 at h2 ⊢
  generalize val_main_v140 (F := Ideal) X G W = y3 at h3 ⊢
  pointwise
  have hn := n.isLt
  unfold mainCol
  by_cases c1 : n.val < 1024
  · refine (dif_pos c1).trans ((hy _).trans (if_pos (by omega)).symm)
  refine (dif_neg c1).trans ?_
  by_cases c2 : n.val - 1024 < 1024
  · refine (dif_pos c2).trans ((hy _).trans (Eq.trans ?_ (if_pos (by omega)).symm))
    exact congrArg (pr X G W _ _) (show 1024 + (n.val - 1024) = n.val by omega)
  refine (dif_neg c2).trans (Eq.trans ?_ (if_neg (by omega)).symm)
  by_cases c3 : n.val - 1024 - 1024 < 1024
  · refine (dif_pos c3).trans (Eq.trans ?_ (if_pos (by omega)).symm)
    refine congrArg (· * Ideal.ofBits .f32 0x3E000000#32) ((h1 _ _).trans ?_)
    exact congrArg (rot _ _) (show 2048 + ((n.val - 1024 - 1024) / 64 * 64 + (n.val - 1024 - 1024) % 64) = n.val by omega)
  refine (dif_neg c3).trans (Eq.trans ?_ (if_neg (by omega)).symm)
  by_cases c4 : n.val - 1024 - 1024 - 1024 < 256
  · refine (dif_pos c4).trans (Eq.trans ?_ (if_pos (by omega)).symm)
    refine (h2 _ _).trans ?_
    exact congrArg (rot _ _) (show 3072 + ((n.val - 1024 - 1024 - 1024) / 64 * 64 + (n.val - 1024 - 1024 - 1024) % 64) = n.val by omega)
  refine (dif_neg c4).trans (Eq.trans ?_ (if_neg (by omega)).symm)
  by_cases c5 : n.val - 1024 - 1024 - 1024 - 256 < 256
  · refine (dif_pos c5).trans ((hy _).trans (Eq.trans ?_ (if_pos (by omega)).symm))
    exact congrArg (pr X G W _ _) (show 3328 + (n.val - 1024 - 1024 - 1024 - 256) = n.val by omega)
  refine (dif_neg c5).trans (Eq.trans ?_ (if_neg (by omega)).symm)
  by_cases c6 : n.val - 1024 - 1024 - 1024 - 256 - 256 < 512
  · refine (dif_pos c6).trans (Eq.trans ?_ (if_pos (by omega)).symm)
    refine (h3 _ _).trans ?_
    exact congrArg (rot _ _) (show 3584 + ((n.val - 1024 - 1024 - 1024 - 256 - 256) / 64 * 64 + (n.val - 1024 - 1024 - 1024 - 256 - 256) % 64) = n.val by omega)
  refine (dif_neg c6).trans (Eq.trans ?_ (if_neg (by omega)).symm)
  by_cases c7 : n.val - 1024 - 1024 - 1024 - 256 - 256 - 512 < 2048
  · refine (dif_pos c7).trans ((hy _).trans ?_)
    exact congrArg (pr X G W _ _) (show 4168 + (n.val - 1024 - 1024 - 1024 - 256 - 256 - 512) = n.val + 72 by omega)
  · refine (dif_neg c7).trans ((hy _).trans ?_)
    exact congrArg (pr X G W _ _) (show 6216 + (n.val - 1024 - 1024 - 1024 - 256 - 256 - 512 - 2048) = n.val + 72 by omega)

theorem small_stage (R : Fin 8192) (l : Fin 128) : val_main_v186 (F := Ideal) X G W (ix2 R l) = smallCol X G W (seqOf R) (posOf R) l.val := by
  have hy := pr_stage X G W (seqOf R) (posOf R)
  have h1 := heads_s X G W (seqOf R) (posOf R)
  unfold val_main_v186 val_main_v183 val_main_v184 val_main_v185 val_main_v171 val_main_v22 val_main_cst_17
  generalize val_main_v14 (F := Ideal) X G W = y at hy ⊢
  generalize val_main_v170 (F := Ideal) X G W = y1 at h1 ⊢
  pointwise
  have hl := l.isLt
  unfold smallCol
  by_cases c1 : l.val < 64
  · refine (dif_pos c1).trans (Eq.trans ?_ (if_pos c1).symm)
    exact h1 ⟨l.val, c1⟩
  refine (dif_neg c1).trans (Eq.trans ?_ (if_neg c1).symm)
  by_cases c2 : l.val - 64 < 8
  · refine (dif_pos c2).trans ((hy _).trans (Eq.trans ?_ (if_pos (by omega)).symm))
    exact congrArg (pr X G W _ _) (show 4160 + (l.val - 64) = 4096 + l.val by omega)
  · exact (dif_neg c2).trans (if_neg (by omega)).symm

theorem kept_stage (R : Fin 8192) (n : Fin 512) : val_main_v193 (F := Ideal) X G W k (ix2 R n)
    = mainCol X G W q k (seqOf R) (posOf R) (3072 + n.val) := by
  have hy := pr_stage X G W (seqOf R) (posOf R)
  have h2 := heads_k X G W k (seqOf R) (posOf R)
  unfold val_main_v193 val_main_v189 val_main_v187 val_main_v188 val_main_v19
  generalize val_main_v14 (F := Ideal) X G W = y at hy ⊢
  generalize val_main_v110 (F := Ideal) X G W k = y2 at h2 ⊢
  pointwise
  have hn := n.isLt
  unfold mainCol
  refine Eq.trans ?_ ((if_neg (by omega)).trans (if_neg (by omega))).symm
  by_cases c1 : n.val < 256
  · refine (dif_pos c1).trans (Eq.trans ?_ (if_pos (by omega)).symm)
    refine (h2 _ _).trans ?_
    exact congrArg (rot _ _) (show 3072 + (n.val / 64 * 64 + n.val % 64) = 3072 + n.val by omega)
  refine (dif_neg c1).trans (Eq.trans ?_ (if_neg (by omega)).symm)
  refine (hy _).trans (Eq.trans ?_ (if_pos (by omega)).symm)
  exact congrArg (pr X G W _ _) (show 3328 + (n.val - 256) = 3072 + n.val by omega)

theorem key_stage (R : Fin 8192) (l : Fin 128) : val_main_v194 (F := Ideal) X G W (ix2 R l) = keyCol X G W (seqOf R) (posOf R) l.val := by
  have h1 := heads_s X G W (seqOf R) (posOf R)
  unfold val_main_v194 val_main_v192 val_main_v190 val_main_v191 val_main_v171 val_main_cst_18
  generalize val_main_v170 (F := Ideal) X G W = y1 at h1 ⊢
  pointwise
  have hl := l.isLt
  unfold keyCol
  by_cases c1 : l.val < 64
  · refine (dif_pos c1).trans (Eq.trans ?_ (if_pos c1).symm)
    exact h1 ⟨l.val, c1⟩
  · exact (dif_neg c1).trans (if_neg c1).symm

end Cert.ProjectionsIdeal.Projections

end
-- ==== Proof.Inproj.Main.lean ====
/- The projections' call: its frames, and the kernel's four results as the reference's. -/
module

public import proofs.«01_k».proof.Defs
public import proofs.«01_k».proof.Proof.Gen.Inproj
public import proofs.«01_k».proof.Proof.Gen.InprojIdeal
public import proofs.«01_k».proof.Proof.Gen.ProjectionsIdeal
public import proofs.«01_k».proof.Proof.Gen.Pre_finite
public import proofs.«01_k».proof.Proof.Gen.ProjectionsIdeal.Run
public import proofs.«01_k».proof.Proof.Gen.ProjectionsIdeal.Read
public import proofs.«01_k».proof.Proof.Inproj.Run
public import proofs.«01_k».proof.Proof.Inproj.Value
public import proofs.«01_k».proof.Proof.Inproj.Ref
public import Idealize.ShloMosaic.Lib.ReduceAll
public import Idealize.ShloMosaic.Adequacy
public import Idealize.ShloMosaic.Init

@[expose] public section

set_option maxRecDepth 16384

noncomputable section

namespace Cert.Proof.Inproj

open Idealize.ShloMosaic Idealize.SL.Sem
open Cert.Projections

/-! ## The precondition -/

/-- A value whose magnitude is below the infinity's word is finite. -/
theorem real_of_lt (x : EReal) (h : Ideal.cmp .olt (max x (-x)) (Ideal.ofBits .f32 0x7F800000#32) = 1#1) : Real' x := by
  have hi : Ideal.ofBits .f32 0x7F800000#32 = ⊤ := by simp [Ideal.ofBits, Ideal.ieee]
  rw [hi] at h
  have h' : max x (-x) < ⊤ := by
    by_contra hn
    simp [Ideal.cmp, hn] at h
  induction x using EReal.rec with
  | bot => simp at h'
  | top => simp at h'
  | coe r => exact ⟨r, rfl⟩

theorem pre_real (X : Acts) (G : Gain) (W : Mat) (q k : Head) (g : Cert.Pre_finite.Facts)
    (h : Cert.Pre_finite.fn (F := Ideal) X G W q k = fun _ => 1#1) :
    (∀ i, Real' (G i)) ∧ ∀ (j : Fin 2048) (n : Fin 8264), 2048 ≤ n.val → n.val < 3328 → Real' (W (ix2 j n)) := by
  have h0 := congrFun h (fun a => a.elim0)
  unfold Cert.Pre_finite.fn at h0
  obtain ⟨h1, h2⟩ := IntOp.andi_eq_one.1 h0
  haveI : Subsingleton (Cert.Pre_finite.S_ : Shape).Idx := ⟨fun a b => funext fun x => x.elim0⟩
  refine ⟨fun i => real_of_lt _ (Host.reduce_andi_all _ _ _ _ _ h1 i), fun j n hn hn' => ?_⟩
  have h3 := Host.reduce_andi_all _ _ _ _ _ h2 (ix2 j (⟨n.val - 2048, by omega⟩ : Fin 1280))
  have e : extractStridedSlice Cert.Pre_finite.S2048x1280 ![0, 2048] W Cert.Pre_finite.Facts.slices_S2048x8264_S2048x1280_0_2048
      (ix2 j (⟨n.val - 2048, by omega⟩ : Fin 1280)) = W (ix2 j n) := by
    pointwise
    exact congrArg W (congrArg (ix2 j) (Fin.ext (show 2048 + (n.val - 2048) = n.val by omega)))
  rw [← e]
  exact real_of_lt _ h3

/-! ## The frames -/

set_option maxHeartbeats 4000000 in
/-- The two programs call the same body. -/
theorem body_eq : Cert.Inproj.defs₀ (F := Bits) = Cert.InprojIdeal.defs₀ (F := Bits) :=
  congrArg Defs.onTc (funext fun l => funext fun a => match l, a with
    | 0, (t, s) => rfl
    | ⟨_ + 1, h⟩, _ => absurd h (Nat.not_lt.2 (Nat.le_add_left _ _)))

set_option maxHeartbeats 4000000 in
theorem main_eq : Cert.Inproj.main (F := Bits) = Cert.InprojIdeal.main (F := Bits) := rfl

set_option maxHeartbeats 2000000 in
theorem defs_eq : Cert.Inproj.defs (F := Bits) = Cert.InprojIdeal.defs (F := Bits) :=
  congrArg (Pipeline.defs (Cert.InprojIdeal.pcfgs (F := Bits))) body_eq

section
open Cert.InprojIdeal Cert.InprojIdeal.Gen Cert.InprojIdeal.Projections
variable {F : FTy → Type} [FloatOps F] (m : (ℓ : Loc nD τ sig) → Buf (Elt F) ℓ) (ρ : Dev nD → PrngReg)

/-- The arguments in every state the kernel ends in. -/
theorem args_of (r : PUnit × MemSt nD τ sig (Elt F)) (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩

/-- The kernel's run leaves its arguments and the counters as it found them. -/
theorem frame_run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run (defs (F := F)) _ _).mono (fun r hr => ⟨fun c => args_of m r hr c, hr.2⟩) (run_main m ρ)
end

set_option maxHeartbeats 2000000 in
theorem frame_kernel : Cert.quiescent_Inproj := fun m ρ _ => by
  have h := frame_run (F := Bits) m ρ
  rw [← defs_eq, ← main_eq] at h
  exact h
theorem frame_kernel_finite : Cert.quiescent_Inproj_pre_finite := fun m ρ _ => frame_kernel m ρ trivial
theorem frame_kernel_ideal : Cert.quiescent_InprojIdeal := fun m ρ _ => frame_run (F := Ideal) m ρ
theorem frame_kernel_ideal_finite : Cert.quiescent_InprojIdeal_pre_finite := fun m ρ _ => frame_run (F := Ideal) m ρ

section
open Cert.ProjectionsIdeal
/-- The reference leaves its arguments as it found them; it has no counters. -/
theorem frame_reference : Cert.quiescent_ProjectionsIdeal := fun m ρ _ =>
  (θ_run Cert.ProjectionsIdeal.defs _ _).mono (fun r h => ⟨fun c => (h c).2.2.2.2, sem_eq_zero_of_no_sems (by decide) r.2⟩)
    (Cert.ProjectionsIdeal.Value.run (F := Ideal) m ρ)
end
theorem frame_reference_finite : Cert.quiescent_ProjectionsIdeal_pre_finite := fun m ρ _ => frame_reference m ρ trivial

/-! ## The results -/

section
open Cert.ProjectionsIdeal Cert.ProjectionsIdeal.Read
variable (m : (ℓ : Loc nD τ sig) → Buf (Elt Ideal) ℓ) (ρ : Dev nD → PrngReg)

set_option maxHeartbeats 4000000 in
/-- The reference's run, its results as functions of its arguments. -/
theorem reference_run : θ_run (defs (F := Ideal)) (onTc (τ := τ) (main (F := Ideal))) ⟨m, fun _ => 0, ρ⟩ (fun r => ∀ c : Dev nD,
      r.2.mem ((c.tc : Thread nD τ).loc main_v182) = val_main_v182 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v186) = val_main_v186 (F := Ideal) (m ((c.tc : Thread nD τ).loc main_arg0)) (m ((c.tc : Thread nD τ).loc main_arg1)) (m ((c.tc : Thread nD τ).loc main_arg2))
      ∧ r.2.mem ((c.tc : Thread nD τ).loc main_v193) = val_main_v193 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v194) = val_main_v194 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c => ⟨(h c).1.trans (val_main_v182_eq (StableHlo.launchContents m c)),
    (h c).2.1.trans (val_main_v186_eq (StableHlo.launchContents m c)), (h c).2.2.1.trans (val_main_v193_eq (StableHlo.launchContents m c)),
    (h c).2.2.2.1.trans (val_main_v194_eq (StableHlo.launchContents m c)), (h c).2.2.2.2⟩) (Cert.ProjectionsIdeal.Value.run (F := Ideal) m ρ)

variable (X : Acts) (G : Gain) (W : Mat) (q k : Head)

theorem main_val : val_main_v182 (F := Ideal) X G W q k
    = fun i : S8192x8192.Idx => mainCol X G W q k (seqOf (i 0)) (posOf (i 0)) (i 1).val := by
  funext i
  obtain ⟨R, n, rfl⟩ : ∃ (R : Fin 8192) (n : Fin 8192), i = ix2 R n := Cert.InprojIdeal.Projections.split2 i
  exact Cert.ProjectionsIdeal.Projections.main_stage X G W q k R n
theorem small_val : val_main_v186 (F := Ideal) X G W = fun i : S8192x128.Idx => smallCol X G W (seqOf (i 0)) (posOf (i 0)) (i 1).val := by
  funext i
  obtain ⟨R, n, rfl⟩ : ∃ (R : Fin 8192) (n : Fin 128), i = ix2 R n := Cert.InprojIdeal.Projections.split2 i
  exact Cert.ProjectionsIdeal.Projections.small_stage X G W R n
theorem kept_val : val_main_v193 (F := Ideal) X G W k
    = fun i : S8192x512.Idx => mainCol X G W q k (seqOf (i 0)) (posOf (i 0)) (3072 + (i 1).val) := by
  funext i
  obtain ⟨R, n, rfl⟩ : ∃ (R : Fin 8192) (n : Fin 512), i = ix2 R n := Cert.InprojIdeal.Projections.split2 i
  exact Cert.ProjectionsIdeal.Projections.kept_stage X G W q k R n
theorem key_val : val_main_v194 (F := Ideal) X G W = fun i : S8192x128.Idx => keyCol X G W (seqOf (i 0)) (posOf (i 0)) (i 1).val := by
  funext i
  obtain ⟨R, n, rfl⟩ : ∃ (R : Fin 8192) (n : Fin 128), i = ix2 R n := Cert.InprojIdeal.Projections.split2 i
  exact Cert.ProjectionsIdeal.Projections.key_stage X G W R n
end

section
open Cert.InprojIdeal Cert.InprojIdeal.Gen Cert.InprojIdeal.Projections
variable (m : (ℓ : Loc nD τ sig) → Buf (Elt Ideal) ℓ) (ρ : Dev nD → PrngReg)
variable (hG : ∀ c i, Real' (Gt m c i)) (hW : ∀ c (k : Fin 2048) (n : Fin 8264), 2048 ≤ n.val → n.val < 3328 → Real' (Wt m c (ix2 k n)))

include hG hW in
/-- The kernel's run, its results as formulas of its arguments. -/
theorem kernel_run : θ_run (defs (F := Ideal)) (onTc (τ := τ) (main (F := Ideal))) ⟨m, fun _ => 0, ρ⟩ (fun r => ∀ c : Dev nD,
      r.2.mem ((c.tc : Thread nD τ).loc main_v63_0) = mainRows m c
      ∧ r.2.mem ((c.tc : Thread nD τ).loc main_v63_1) = smallRows m c
      ∧ r.2.mem ((c.tc : Thread nD τ).loc main_v63_2) = keptRows m c
      ∧ r.2.mem ((c.tc : Thread nD τ).loc main_v63_3) = keyRows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c => ⟨((h.1 c).1 (9 : Fin 13)).trans (final_9 m c (hG c) (hW c)),
    ((h.1 c).1 (10 : Fin 13)).trans (final_10 m c), ((h.1 c).1 (11 : Fin 13)).trans (final_11 m c (hG c) (hW c)),
    ((h.1 c).1 (12 : Fin 13)).trans (final_12 m c), args_of m r h c⟩) (run_main m ρ)
end

open Cert.InprojIdeal.Projections in
/-- The kernel's four results are the reference's. -/
theorem agree : Cert.algebraic_InprojIdeal_ProjectionsIdeal_pre_finite := fun m ρ m' ρ' hp ha => by
  refine ⟨fun c => mainRows m c, fun c => smallRows m c, fun c => keptRows m c, fun c => keyRows m c, ?_, ?_⟩
  · exact kernel_run m ρ (fun c => (pre_real _ _ _ _ _ Cert.Pre_finite.Gen.facts (hp c)).1)
      (fun c => (pre_real _ _ _ _ _ Cert.Pre_finite.Gen.facts (hp c)).2)
  · refine (θ_run Cert.ProjectionsIdeal.defs _ _).mono (fun r h c => ?_) (reference_run m' ρ')
    obtain ⟨r0, r1, r2, r3, ra⟩ := h c
    obtain ⟨h0, h1, h2, h3, h4⟩ := ha c
    rw [h0, h1, h2, h3, h4, main_val] at r0
    rw [h0, h1, h2, small_val] at r1
    rw [h0, h1, h2, h4, kept_val _ _ _ (Qt m c)] at r2
    rw [h0, h1, h2, key_val] at r3
    exact ⟨r0, r1, r2, r3, ra⟩

end Cert.Proof.Inproj

end
-- ==== Proof.lean ====
/- The proof of the certificate's claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_experts_named
public import proofs.«01_k».proof.Proof.Value
public import proofs.«01_k».proof.Proof.Ref
public import proofs.«01_k».proof.Proof.Inproj.Main
public import Idealize.ShloMosaic.Adequacy
public import Idealize.ShloMosaic.Init

@[expose] public section

noncomputable section

namespace Cert.Proof

open Idealize.ShloMosaic Idealize.SL.Sem

/-- The two programs call the same body. -/
theorem body_eq : Cert.Kernel.defs₀ (F := Bits) = Cert.KernelIdeal.defs₀ (F := Bits) :=
  congrArg Defs.onTc (funext fun l => funext fun a => match l, a with
    | 0, (t, s) => rfl
    | ⟨_ + 1, h⟩, _ => absurd h (Nat.not_lt.2 (Nat.le_add_left _ _)))

theorem defs_eq : Cert.Kernel.defs (F := Bits) = Cert.KernelIdeal.defs (F := Bits) :=
  congrArg (Pipeline.defs (Cert.KernelIdeal.pcfgs (F := Bits))) body_eq

/-- The experts' kernel leaves its arguments and the counters as it found them. -/
theorem frame_kernel : Cert.quiescent_Kernel := fun m ρ h => by
  rw [defs_eq]
  exact Cert.KernelIdeal.Experts.frame_run (F := Bits) m ρ (Cert.KernelIdeal.Experts.pre_le m 0 Cert.Pre_experts_named.Gen.facts (h 0))

/-- The same over the extended reals. -/
theorem frame_kernel_ideal : Cert.quiescent_KernelIdeal := fun m ρ h =>
  Cert.KernelIdeal.Experts.frame_run (F := Ideal) m ρ (Cert.KernelIdeal.Experts.pre_le m 0 Cert.Pre_experts_named.Gen.facts (h 0))

/-- The reference leaves its arguments as it found them; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.KernelIdeal.Experts in
/-- The kernel's result is the reference's. -/
theorem agree : Cert.algebraic_KernelIdeal_ReferenceIdeal := fun m ρ m' ρ' hp ha => by
  have hle := pre_le m 0 Cert.Pre_experts_named.Gen.facts (hp 0)
  refine ⟨fun c => layer m (tables m 0) (tables m 1) c, ?_, ?_⟩
  · refine (θ_run Cert.KernelIdeal.defs _ _).mono (fun r hr c => ⟨?_, run_args (named m hle) m (tables_at m) r hr.1 c⟩)
      (run_main (named m hle) m ρ (tables_at m))
    exact ((hr.1 c).1 (5 : Fin 6)).trans (final_5 (named m hle) m (tables m 0) rfl hle (tables m 1) rfl c)
  · refine (θ_run Cert.ReferenceIdeal.defs _ _).mono (fun r hr c => ⟨(hr c).1.trans ?_, (hr c).2⟩)
      (Cert.ReferenceIdeal.Value.run (F := Ideal) m' ρ')
    refine (Cert.ReferenceIdeal.Read.val_main_v30_eq _ _ _ _ _ _ _).trans ?_
    obtain rfl : c = 0 := Subsingleton.elim _ _
    obtain ⟨h0, h1, h2, h3, h4, h5, h6⟩ := ha 0
    rw [h0, h1, h2, h3, h4, h5, h6]
    funext i
    obtain ⟨r, d, rfl⟩ : ∃ (r : Fin 24832) (d : Fin 2048), i = ix2 r d := ⟨i 0, i 1, funext fun b => match b with
      | ⟨0, _⟩ => rfl
      | ⟨1, _⟩ => rfl⟩
    exact Cert.ReferenceIdeal.Experts.result _ _ _ _ _ _ _ hle r d

theorem claim : Cert.Claim := ⟨Cert.Kernel.Gen.facts, Cert.KernelIdeal.Gen.facts, Cert.ReferenceIdeal.Gen.facts, Cert.Inproj.Gen.facts,
  Cert.InprojIdeal.Gen.facts, Cert.ProjectionsIdeal.Gen.facts, Cert.Pre_experts_named.Gen.facts, Cert.Pre_finite.Gen.facts,
  frame_kernel, frame_kernel_ideal, frame_reference, Inproj.frame_kernel, Inproj.frame_kernel_finite, Inproj.frame_kernel_ideal,
  Inproj.frame_kernel_ideal_finite, Inproj.frame_reference, Inproj.frame_reference_finite, trivial, agree, trivial, Inproj.agree⟩

end Cert.Proof

end
